-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_KernelZ (m : (ℓ : Loc Cert.KernelZ.nD Cert.KernelZ.τ Cert.KernelZ.sig) → Buf (Elt Bits) ℓ) : Prop :=
  True

def Pre_KernelZIdeal (m : (ℓ : Loc Cert.KernelZIdeal.nD Cert.KernelZIdeal.τ Cert.KernelZIdeal.sig) → Buf (Elt Ideal) ℓ) : Prop :=
  True

def Pre_ReferenceZIdeal (m : (ℓ : Loc Cert.ReferenceZIdeal.nD Cert.ReferenceZIdeal.τ Cert.ReferenceZIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelU (m : (ℓ : Loc Cert.KernelU.nD Cert.KernelU.τ Cert.KernelU.sig) → Buf (Elt Bits) ℓ) : Prop :=
  True

def Pre_KernelUIdeal (m : (ℓ : Loc Cert.KernelUIdeal.nD Cert.KernelUIdeal.τ Cert.KernelUIdeal.sig) → Buf (Elt Ideal) ℓ) : Prop :=
  True

def Pre_ReferenceUIdeal (m : (ℓ : Loc Cert.ReferenceUIdeal.nD Cert.ReferenceUIdeal.τ Cert.ReferenceUIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelK (m : (ℓ : Loc Cert.KernelK.nD Cert.KernelK.τ Cert.KernelK.sig) → Buf (Elt Bits) ℓ) : Prop :=
  True

def Pre_KernelKIdeal (m : (ℓ : Loc Cert.KernelKIdeal.nD Cert.KernelKIdeal.τ Cert.KernelKIdeal.sig) → Buf (Elt Ideal) ℓ) : Prop :=
  True

def Pre_ReferenceKIdeal (m : (ℓ : Loc Cert.ReferenceKIdeal.nD Cert.ReferenceKIdeal.τ Cert.ReferenceKIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_KernelFIdeal_finite_bounds [hPre_finite_bounds : Cert.Pre_finite_bounds.Facts] (m : (ℓ : Loc Cert.KernelFIdeal.nD Cert.KernelFIdeal.τ Cert.KernelFIdeal.sig) → Buf (Elt Ideal) ℓ) : Prop :=
  ∀ c : Dev Cert.KernelFIdeal.nD,
    (Cert.Pre_finite_bounds.fn (F := Ideal) (m ((c.tc : Thread Cert.KernelFIdeal.nD Cert.KernelFIdeal.τ).loc Cert.KernelFIdeal.main_arg0)) (m ((c.tc : Thread Cert.KernelFIdeal.nD Cert.KernelFIdeal.τ).loc Cert.KernelFIdeal.main_arg1)) (m ((c.tc : Thread Cert.KernelFIdeal.nD Cert.KernelFIdeal.τ).loc Cert.KernelFIdeal.main_arg2)) (m ((c.tc : Thread Cert.KernelFIdeal.nD Cert.KernelFIdeal.τ).loc Cert.KernelFIdeal.main_arg3))) = (fun _ => 1#1)

def Pre_ReferenceFIdeal (m : (ℓ : Loc Cert.ReferenceFIdeal.nD Cert.ReferenceFIdeal.τ Cert.ReferenceFIdeal.sig) → Buf (Elt Ideal) ℓ) : Prop :=
  True

def Pre_ReferenceFIdeal_finite_bounds [hPre_finite_bounds : Cert.Pre_finite_bounds.Facts] (m : (ℓ : Loc Cert.ReferenceFIdeal.nD Cert.ReferenceFIdeal.τ Cert.ReferenceFIdeal.sig) → Buf (Elt Ideal) ℓ) : Prop :=
  ∀ c : Dev Cert.ReferenceFIdeal.nD,
    (Cert.Pre_finite_bounds.fn (F := Ideal) (m ((c.tc : Thread Cert.ReferenceFIdeal.nD Cert.ReferenceFIdeal.τ).loc Cert.ReferenceFIdeal.main_arg0)) (m ((c.tc : Thread Cert.ReferenceFIdeal.nD Cert.ReferenceFIdeal.τ).loc Cert.ReferenceFIdeal.main_arg1)) (m ((c.tc : Thread Cert.ReferenceFIdeal.nD Cert.ReferenceFIdeal.τ).loc Cert.ReferenceFIdeal.main_arg2)) (m ((c.tc : Thread Cert.ReferenceFIdeal.nD Cert.ReferenceFIdeal.τ).loc Cert.ReferenceFIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_KernelZ [hKernelZ : Cert.KernelZ.Facts] : Prop :=
  ∀ (m : (ℓ : Loc Cert.KernelZ.nD Cert.KernelZ.τ Cert.KernelZ.sig) → Buf (Elt Bits) ℓ) (g : Dev Cert.KernelZ.nD → PrngReg), Pre_KernelZ m →
    θ_run (Cert.KernelZ.defs (F := Bits)) (onTc (τ := Cert.KernelZ.τ) (Cert.KernelZ.main (F := Bits))) ⟨m, fun _ => 0, g⟩ (fun r => (∀ c : Dev Cert.KernelZ.nD,
      r.2.mem ((c.tc : Thread Cert.KernelZ.nD Cert.KernelZ.τ).loc Cert.KernelZ.main_arg0) = m ((c.tc : Thread Cert.KernelZ.nD Cert.KernelZ.τ).loc Cert.KernelZ.main_arg0)
      ∧ r.2.mem ((c.tc : Thread Cert.KernelZ.nD Cert.KernelZ.τ).loc Cert.KernelZ.main_arg1) = m ((c.tc : Thread Cert.KernelZ.nD Cert.KernelZ.τ).loc Cert.KernelZ.main_arg1)
      ∧ r.2.mem ((c.tc : Thread Cert.KernelZ.nD Cert.KernelZ.τ).loc Cert.KernelZ.main_arg2) = m ((c.tc : Thread Cert.KernelZ.nD Cert.KernelZ.τ).loc Cert.KernelZ.main_arg2))
      ∧ r.2.sem = fun _ => 0)

def quiescent_KernelZIdeal [hKernelZIdeal : Cert.KernelZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg), Pre_KernelZIdeal m →
    θ_run (Cert.KernelZIdeal.defs (F := Ideal)) (onTc (τ := Cert.KernelZIdeal.τ) (Cert.KernelZIdeal.main (F := Ideal))) ⟨m, fun _ => 0, g⟩ (fun r => (∀ c : Dev Cert.KernelZIdeal.nD,
      r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
      ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
      ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2))
      ∧ r.2.sem = fun _ => 0)

def quiescent_ReferenceZIdeal [hReferenceZIdeal : Cert.ReferenceZIdeal.Facts] : Prop :=
  ∀ (m : (ℓ : Loc Cert.ReferenceZIdeal.nD Cert.ReferenceZIdeal.τ Cert.ReferenceZIdeal.sig) → Buf (Elt Ideal) ℓ) (g : Dev Cert.ReferenceZIdeal.nD → PrngReg), Pre_ReferenceZIdeal m →
    θ_run (Cert.ReferenceZIdeal.defs (F := Ideal)) (onTc (τ := Cert.ReferenceZIdeal.τ) (Cert.ReferenceZIdeal.main (F := Ideal))) ⟨m, fun _ => 0, g⟩ (fun r => (∀ c : Dev Cert.ReferenceZIdeal.nD,
      r.2.mem ((c.tc : Thread Cert.ReferenceZIdeal.nD Cert.ReferenceZIdeal.τ).loc Cert.ReferenceZIdeal.main_arg0) = m ((c.tc : Thread Cert.ReferenceZIdeal.nD Cert.ReferenceZIdeal.τ).loc Cert.ReferenceZIdeal.main_arg0)
      ∧ r.2.mem ((c.tc : Thread Cert.ReferenceZIdeal.nD Cert.ReferenceZIdeal.τ).loc Cert.ReferenceZIdeal.main_arg1) = m ((c.tc : Thread Cert.ReferenceZIdeal.nD Cert.ReferenceZIdeal.τ).loc Cert.ReferenceZIdeal.main_arg1)
      ∧ r.2.mem ((c.tc : Thread Cert.ReferenceZIdeal.nD Cert.ReferenceZIdeal.τ).loc Cert.ReferenceZIdeal.main_arg2) = m ((c.tc : Thread Cert.ReferenceZIdeal.nD Cert.ReferenceZIdeal.τ).loc Cert.ReferenceZIdeal.main_arg2))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelU [hKernelU : Cert.KernelU.Facts] : Prop :=
  ∀ (m : (ℓ : Loc Cert.KernelU.nD Cert.KernelU.τ Cert.KernelU.sig) → Buf (Elt Bits) ℓ) (g : Dev Cert.KernelU.nD → PrngReg), Pre_KernelU m →
    θ_run (Cert.KernelU.defs (F := Bits)) (onTc (τ := Cert.KernelU.τ) (Cert.KernelU.main (F := Bits))) ⟨m, fun _ => 0, g⟩ (fun r => (∀ c : Dev Cert.KernelU.nD,
      r.2.mem ((c.tc : Thread Cert.KernelU.nD Cert.KernelU.τ).loc Cert.KernelU.main_arg0) = m ((c.tc : Thread Cert.KernelU.nD Cert.KernelU.τ).loc Cert.KernelU.main_arg0)
      ∧ r.2.mem ((c.tc : Thread Cert.KernelU.nD Cert.KernelU.τ).loc Cert.KernelU.main_arg1) = m ((c.tc : Thread Cert.KernelU.nD Cert.KernelU.τ).loc Cert.KernelU.main_arg1))
      ∧ r.2.sem = fun _ => 0)

def quiescent_KernelUIdeal [hKernelUIdeal : Cert.KernelUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg), Pre_KernelUIdeal m →
    θ_run (Cert.KernelUIdeal.defs (F := Ideal)) (onTc (τ := Cert.KernelUIdeal.τ) (Cert.KernelUIdeal.main (F := Ideal))) ⟨m, fun _ => 0, g⟩ (fun r => (∀ c : Dev Cert.KernelUIdeal.nD,
      r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
      ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1))
      ∧ r.2.sem = fun _ => 0)

def quiescent_ReferenceUIdeal [hReferenceUIdeal : Cert.ReferenceUIdeal.Facts] : Prop :=
  ∀ (m : (ℓ : Loc Cert.ReferenceUIdeal.nD Cert.ReferenceUIdeal.τ Cert.ReferenceUIdeal.sig) → Buf (Elt Ideal) ℓ) (g : Dev Cert.ReferenceUIdeal.nD → PrngReg), Pre_ReferenceUIdeal m →
    θ_run (Cert.ReferenceUIdeal.defs (F := Ideal)) (onTc (τ := Cert.ReferenceUIdeal.τ) (Cert.ReferenceUIdeal.main (F := Ideal))) ⟨m, fun _ => 0, g⟩ (fun r => (∀ c : Dev Cert.ReferenceUIdeal.nD,
      r.2.mem ((c.tc : Thread Cert.ReferenceUIdeal.nD Cert.ReferenceUIdeal.τ).loc Cert.ReferenceUIdeal.main_arg0) = m ((c.tc : Thread Cert.ReferenceUIdeal.nD Cert.ReferenceUIdeal.τ).loc Cert.ReferenceUIdeal.main_arg0)
      ∧ r.2.mem ((c.tc : Thread Cert.ReferenceUIdeal.nD Cert.ReferenceUIdeal.τ).loc Cert.ReferenceUIdeal.main_arg1) = m ((c.tc : Thread Cert.ReferenceUIdeal.nD Cert.ReferenceUIdeal.τ).loc Cert.ReferenceUIdeal.main_arg1))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2))
      ∧ r.2.sem = fun _ => 0)

def quiescent_KernelK [hKernelK : Cert.KernelK.Facts] : Prop :=
  ∀ (m : (ℓ : Loc Cert.KernelK.nD Cert.KernelK.τ Cert.KernelK.sig) → Buf (Elt Bits) ℓ) (g : Dev Cert.KernelK.nD → PrngReg), Pre_KernelK m →
    θ_run (Cert.KernelK.defs (F := Bits)) (onTc (τ := Cert.KernelK.τ) (Cert.KernelK.main (F := Bits))) ⟨m, fun _ => 0, g⟩ (fun r => (∀ c : Dev Cert.KernelK.nD,
      r.2.mem ((c.tc : Thread Cert.KernelK.nD Cert.KernelK.τ).loc Cert.KernelK.main_arg0) = m ((c.tc : Thread Cert.KernelK.nD Cert.KernelK.τ).loc Cert.KernelK.main_arg0)
      ∧ r.2.mem ((c.tc : Thread Cert.KernelK.nD Cert.KernelK.τ).loc Cert.KernelK.main_arg1) = m ((c.tc : Thread Cert.KernelK.nD Cert.KernelK.τ).loc Cert.KernelK.main_arg1))
      ∧ r.2.sem = fun _ => 0)

def quiescent_KernelKIdeal [hKernelKIdeal : Cert.KernelKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg), Pre_KernelKIdeal m →
    θ_run (Cert.KernelKIdeal.defs (F := Ideal)) (onTc (τ := Cert.KernelKIdeal.τ) (Cert.KernelKIdeal.main (F := Ideal))) ⟨m, fun _ => 0, g⟩ (fun r => (∀ c : Dev Cert.KernelKIdeal.nD,
      r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
      ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ r.2.sem = fun _ => 0)

def quiescent_ReferenceKIdeal [hReferenceKIdeal : Cert.ReferenceKIdeal.Facts] : Prop :=
  ∀ (m : (ℓ : Loc Cert.ReferenceKIdeal.nD Cert.ReferenceKIdeal.τ Cert.ReferenceKIdeal.sig) → Buf (Elt Ideal) ℓ) (g : Dev Cert.ReferenceKIdeal.nD → PrngReg), Pre_ReferenceKIdeal m →
    θ_run (Cert.ReferenceKIdeal.defs (F := Ideal)) (onTc (τ := Cert.ReferenceKIdeal.τ) (Cert.ReferenceKIdeal.main (F := Ideal))) ⟨m, fun _ => 0, g⟩ (fun r => (∀ c : Dev Cert.ReferenceKIdeal.nD,
      r.2.mem ((c.tc : Thread Cert.ReferenceKIdeal.nD Cert.ReferenceKIdeal.τ).loc Cert.ReferenceKIdeal.main_arg0) = m ((c.tc : Thread Cert.ReferenceKIdeal.nD Cert.ReferenceKIdeal.τ).loc Cert.ReferenceKIdeal.main_arg0)
      ∧ r.2.mem ((c.tc : Thread Cert.ReferenceKIdeal.nD Cert.ReferenceKIdeal.τ).loc Cert.ReferenceKIdeal.main_arg1) = m ((c.tc : Thread Cert.ReferenceKIdeal.nD Cert.ReferenceKIdeal.τ).loc Cert.ReferenceKIdeal.main_arg1))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ r.2.sem = fun _ => 0)

def quiescent_KernelFIdeal_pre_finite_bounds [hKernelFIdeal : Cert.KernelFIdeal.Facts] [hPre_finite_bounds : Cert.Pre_finite_bounds.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal_finite_bounds m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3))
      ∧ r.2.sem = fun _ => 0)

def quiescent_ReferenceFIdeal_pre_finite_bounds [hReferenceFIdeal : Cert.ReferenceFIdeal.Facts] [hPre_finite_bounds : Cert.Pre_finite_bounds.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal_finite_bounds m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_KernelZ_KernelZIdeal : Prop :=
  True

def algebraic_KernelZIdeal_ReferenceZIdeal [hKernelZIdeal : Cert.KernelZIdeal.Facts] [hReferenceZIdeal : Cert.ReferenceZIdeal.Facts] : Prop :=
  ∀ (m : (ℓ : Loc Cert.KernelZIdeal.nD Cert.KernelZIdeal.τ Cert.KernelZIdeal.sig) → Buf (Elt Ideal) ℓ) (g : Dev Cert.KernelZIdeal.nD → PrngReg)
    (m' : (ℓ : Loc Cert.ReferenceZIdeal.nD Cert.ReferenceZIdeal.τ Cert.ReferenceZIdeal.sig) → Buf (Elt Ideal) ℓ) (g' : Dev Cert.ReferenceZIdeal.nD → PrngReg), Pre_KernelZIdeal m →
    (∀ c : Dev Cert.KernelZIdeal.nD,
      m' ((c.tc : Thread Cert.ReferenceZIdeal.nD Cert.ReferenceZIdeal.τ).loc Cert.ReferenceZIdeal.main_arg0) = m ((c.tc : Thread Cert.KernelZIdeal.nD Cert.KernelZIdeal.τ).loc Cert.KernelZIdeal.main_arg0)
      ∧ m' ((c.tc : Thread Cert.ReferenceZIdeal.nD Cert.ReferenceZIdeal.τ).loc Cert.ReferenceZIdeal.main_arg1) = m ((c.tc : Thread Cert.KernelZIdeal.nD Cert.KernelZIdeal.τ).loc Cert.KernelZIdeal.main_arg1)
      ∧ m' ((c.tc : Thread Cert.ReferenceZIdeal.nD Cert.ReferenceZIdeal.τ).loc Cert.ReferenceZIdeal.main_arg2) = m ((c.tc : Thread Cert.KernelZIdeal.nD Cert.KernelZIdeal.τ).loc Cert.KernelZIdeal.main_arg2)) →
    ∃ (v0 : (c : Dev Cert.KernelZIdeal.nD) → Buf (Elt Ideal) ((c.tc : Thread Cert.KernelZIdeal.nD Cert.KernelZIdeal.τ).loc Cert.KernelZIdeal.main_v1)),
      θ_run (Cert.KernelZIdeal.defs (F := Ideal)) (onTc (τ := Cert.KernelZIdeal.τ) (Cert.KernelZIdeal.main (F := Ideal))) ⟨m, fun _ => 0, g⟩ (fun r => ∀ c : Dev Cert.KernelZIdeal.nD,
          r.2.mem ((c.tc : Thread Cert.KernelZIdeal.nD Cert.KernelZIdeal.τ).loc Cert.KernelZIdeal.main_v1) = v0 c
          ∧ r.2.mem ((c.tc : Thread Cert.KernelZIdeal.nD Cert.KernelZIdeal.τ).loc Cert.KernelZIdeal.main_arg0) = m ((c.tc : Thread Cert.KernelZIdeal.nD Cert.KernelZIdeal.τ).loc Cert.KernelZIdeal.main_arg0)
          ∧ r.2.mem ((c.tc : Thread Cert.KernelZIdeal.nD Cert.KernelZIdeal.τ).loc Cert.KernelZIdeal.main_arg1) = m ((c.tc : Thread Cert.KernelZIdeal.nD Cert.KernelZIdeal.τ).loc Cert.KernelZIdeal.main_arg1)
          ∧ r.2.mem ((c.tc : Thread Cert.KernelZIdeal.nD Cert.KernelZIdeal.τ).loc Cert.KernelZIdeal.main_arg2) = m ((c.tc : Thread Cert.KernelZIdeal.nD Cert.KernelZIdeal.τ).loc Cert.KernelZIdeal.main_arg2))
      ∧ θ_run (Cert.ReferenceZIdeal.defs (F := Ideal)) (onTc (τ := Cert.ReferenceZIdeal.τ) (Cert.ReferenceZIdeal.main (F := Ideal))) ⟨m', fun _ => 0, g'⟩ (fun r => ∀ c : Dev Cert.ReferenceZIdeal.nD,
          r.2.mem ((c.tc : Thread Cert.ReferenceZIdeal.nD Cert.ReferenceZIdeal.τ).loc Cert.ReferenceZIdeal.main_v7) = v0 c
          ∧ r.2.mem ((c.tc : Thread Cert.ReferenceZIdeal.nD Cert.ReferenceZIdeal.τ).loc Cert.ReferenceZIdeal.main_arg0) = m' ((c.tc : Thread Cert.ReferenceZIdeal.nD Cert.ReferenceZIdeal.τ).loc Cert.ReferenceZIdeal.main_arg0)
          ∧ r.2.mem ((c.tc : Thread Cert.ReferenceZIdeal.nD Cert.ReferenceZIdeal.τ).loc Cert.ReferenceZIdeal.main_arg1) = m' ((c.tc : Thread Cert.ReferenceZIdeal.nD Cert.ReferenceZIdeal.τ).loc Cert.ReferenceZIdeal.main_arg1)
          ∧ r.2.mem ((c.tc : Thread Cert.ReferenceZIdeal.nD Cert.ReferenceZIdeal.τ).loc Cert.ReferenceZIdeal.main_arg2) = m' ((c.tc : Thread Cert.ReferenceZIdeal.nD Cert.ReferenceZIdeal.τ).loc Cert.ReferenceZIdeal.main_arg2))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v2) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)) →
    ∃ (v0 : (c : Dev Cert.KernelNIdeal.nD) → Buf (Elt Ideal) ((c.tc : Thread Cert.KernelNIdeal.nD Cert.KernelNIdeal.τ).loc Cert.KernelNIdeal.main_v2)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v2) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v28) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v0)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v0) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v3) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v0)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v4) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelU_KernelUIdeal : Prop :=
  True

def algebraic_KernelUIdeal_ReferenceUIdeal [hKernelUIdeal : Cert.KernelUIdeal.Facts] [hReferenceUIdeal : Cert.ReferenceUIdeal.Facts] : Prop :=
  ∀ (m : (ℓ : Loc Cert.KernelUIdeal.nD Cert.KernelUIdeal.τ Cert.KernelUIdeal.sig) → Buf (Elt Ideal) ℓ) (g : Dev Cert.KernelUIdeal.nD → PrngReg)
    (m' : (ℓ : Loc Cert.ReferenceUIdeal.nD Cert.ReferenceUIdeal.τ Cert.ReferenceUIdeal.sig) → Buf (Elt Ideal) ℓ) (g' : Dev Cert.ReferenceUIdeal.nD → PrngReg), Pre_KernelUIdeal m →
    (∀ c : Dev Cert.KernelUIdeal.nD,
      m' ((c.tc : Thread Cert.ReferenceUIdeal.nD Cert.ReferenceUIdeal.τ).loc Cert.ReferenceUIdeal.main_arg0) = m ((c.tc : Thread Cert.KernelUIdeal.nD Cert.KernelUIdeal.τ).loc Cert.KernelUIdeal.main_arg0)
      ∧ m' ((c.tc : Thread Cert.ReferenceUIdeal.nD Cert.ReferenceUIdeal.τ).loc Cert.ReferenceUIdeal.main_arg1) = m ((c.tc : Thread Cert.KernelUIdeal.nD Cert.KernelUIdeal.τ).loc Cert.KernelUIdeal.main_arg1)) →
    ∃ (v0 : (c : Dev Cert.KernelUIdeal.nD) → Buf (Elt Ideal) ((c.tc : Thread Cert.KernelUIdeal.nD Cert.KernelUIdeal.τ).loc Cert.KernelUIdeal.main_v0)),
      θ_run (Cert.KernelUIdeal.defs (F := Ideal)) (onTc (τ := Cert.KernelUIdeal.τ) (Cert.KernelUIdeal.main (F := Ideal))) ⟨m, fun _ => 0, g⟩ (fun r => ∀ c : Dev Cert.KernelUIdeal.nD,
          r.2.mem ((c.tc : Thread Cert.KernelUIdeal.nD Cert.KernelUIdeal.τ).loc Cert.KernelUIdeal.main_v0) = v0 c
          ∧ r.2.mem ((c.tc : Thread Cert.KernelUIdeal.nD Cert.KernelUIdeal.τ).loc Cert.KernelUIdeal.main_arg0) = m ((c.tc : Thread Cert.KernelUIdeal.nD Cert.KernelUIdeal.τ).loc Cert.KernelUIdeal.main_arg0)
          ∧ r.2.mem ((c.tc : Thread Cert.KernelUIdeal.nD Cert.KernelUIdeal.τ).loc Cert.KernelUIdeal.main_arg1) = m ((c.tc : Thread Cert.KernelUIdeal.nD Cert.KernelUIdeal.τ).loc Cert.KernelUIdeal.main_arg1))
      ∧ θ_run (Cert.ReferenceUIdeal.defs (F := Ideal)) (onTc (τ := Cert.ReferenceUIdeal.τ) (Cert.ReferenceUIdeal.main (F := Ideal))) ⟨m', fun _ => 0, g'⟩ (fun r => ∀ c : Dev Cert.ReferenceUIdeal.nD,
          r.2.mem ((c.tc : Thread Cert.ReferenceUIdeal.nD Cert.ReferenceUIdeal.τ).loc Cert.ReferenceUIdeal.main_v3) = v0 c
          ∧ r.2.mem ((c.tc : Thread Cert.ReferenceUIdeal.nD Cert.ReferenceUIdeal.τ).loc Cert.ReferenceUIdeal.main_arg0) = m' ((c.tc : Thread Cert.ReferenceUIdeal.nD Cert.ReferenceUIdeal.τ).loc Cert.ReferenceUIdeal.main_arg0)
          ∧ r.2.mem ((c.tc : Thread Cert.ReferenceUIdeal.nD Cert.ReferenceUIdeal.τ).loc Cert.ReferenceUIdeal.main_arg1) = m' ((c.tc : Thread Cert.ReferenceUIdeal.nD Cert.ReferenceUIdeal.τ).loc Cert.ReferenceUIdeal.main_arg1))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)) →
    ∃ (v0 : (c : Dev Cert.KernelYIdeal.nD) → Buf (Elt Ideal) ((c.tc : Thread Cert.KernelYIdeal.nD Cert.KernelYIdeal.τ).loc Cert.KernelYIdeal.main_v1)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v1) = v0 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v7) = v0 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2))

def preserves_KernelK_KernelKIdeal : Prop :=
  True

def algebraic_KernelKIdeal_ReferenceKIdeal [hKernelKIdeal : Cert.KernelKIdeal.Facts] [hReferenceKIdeal : Cert.ReferenceKIdeal.Facts] : Prop :=
  ∀ (m : (ℓ : Loc Cert.KernelKIdeal.nD Cert.KernelKIdeal.τ Cert.KernelKIdeal.sig) → Buf (Elt Ideal) ℓ) (g : Dev Cert.KernelKIdeal.nD → PrngReg)
    (m' : (ℓ : Loc Cert.ReferenceKIdeal.nD Cert.ReferenceKIdeal.τ Cert.ReferenceKIdeal.sig) → Buf (Elt Ideal) ℓ) (g' : Dev Cert.ReferenceKIdeal.nD → PrngReg), Pre_KernelKIdeal m →
    (∀ c : Dev Cert.KernelKIdeal.nD,
      m' ((c.tc : Thread Cert.ReferenceKIdeal.nD Cert.ReferenceKIdeal.τ).loc Cert.ReferenceKIdeal.main_arg0) = m ((c.tc : Thread Cert.KernelKIdeal.nD Cert.KernelKIdeal.τ).loc Cert.KernelKIdeal.main_arg0)
      ∧ m' ((c.tc : Thread Cert.ReferenceKIdeal.nD Cert.ReferenceKIdeal.τ).loc Cert.ReferenceKIdeal.main_arg1) = m ((c.tc : Thread Cert.KernelKIdeal.nD Cert.KernelKIdeal.τ).loc Cert.KernelKIdeal.main_arg1)) →
    ∃ (v0 : (c : Dev Cert.KernelKIdeal.nD) → Buf (Elt Ideal) ((c.tc : Thread Cert.KernelKIdeal.nD Cert.KernelKIdeal.τ).loc Cert.KernelKIdeal.main_v0)),
      θ_run (Cert.KernelKIdeal.defs (F := Ideal)) (onTc (τ := Cert.KernelKIdeal.τ) (Cert.KernelKIdeal.main (F := Ideal))) ⟨m, fun _ => 0, g⟩ (fun r => ∀ c : Dev Cert.KernelKIdeal.nD,
          r.2.mem ((c.tc : Thread Cert.KernelKIdeal.nD Cert.KernelKIdeal.τ).loc Cert.KernelKIdeal.main_v0) = v0 c
          ∧ r.2.mem ((c.tc : Thread Cert.KernelKIdeal.nD Cert.KernelKIdeal.τ).loc Cert.KernelKIdeal.main_arg0) = m ((c.tc : Thread Cert.KernelKIdeal.nD Cert.KernelKIdeal.τ).loc Cert.KernelKIdeal.main_arg0)
          ∧ r.2.mem ((c.tc : Thread Cert.KernelKIdeal.nD Cert.KernelKIdeal.τ).loc Cert.KernelKIdeal.main_arg1) = m ((c.tc : Thread Cert.KernelKIdeal.nD Cert.KernelKIdeal.τ).loc Cert.KernelKIdeal.main_arg1))
      ∧ θ_run (Cert.ReferenceKIdeal.defs (F := Ideal)) (onTc (τ := Cert.ReferenceKIdeal.τ) (Cert.ReferenceKIdeal.main (F := Ideal))) ⟨m', fun _ => 0, g'⟩ (fun r => ∀ c : Dev Cert.ReferenceKIdeal.nD,
          r.2.mem ((c.tc : Thread Cert.ReferenceKIdeal.nD Cert.ReferenceKIdeal.τ).loc Cert.ReferenceKIdeal.main_v3) = v0 c
          ∧ r.2.mem ((c.tc : Thread Cert.ReferenceKIdeal.nD Cert.ReferenceKIdeal.τ).loc Cert.ReferenceKIdeal.main_arg0) = m' ((c.tc : Thread Cert.ReferenceKIdeal.nD Cert.ReferenceKIdeal.τ).loc Cert.ReferenceKIdeal.main_arg0)
          ∧ r.2.mem ((c.tc : Thread Cert.ReferenceKIdeal.nD Cert.ReferenceKIdeal.τ).loc Cert.ReferenceKIdeal.main_arg1) = m' ((c.tc : Thread Cert.ReferenceKIdeal.nD Cert.ReferenceKIdeal.τ).loc Cert.ReferenceKIdeal.main_arg1))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)) →
    ∃ (v0 : (c : Dev Cert.KernelSIdeal.nD) → Buf (Elt Ideal) ((c.tc : Thread Cert.KernelSIdeal.nD Cert.KernelSIdeal.τ).loc Cert.KernelSIdeal.main_v0)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v0) = v0 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v5) = v0 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1))

def preserves_KernelF_KernelFIdeal : Prop :=
  True

def algebraic_KernelFIdeal_ReferenceFIdeal_pre_finite_bounds [hKernelFIdeal : Cert.KernelFIdeal.Facts] [hReferenceFIdeal : Cert.ReferenceFIdeal.Facts] [hPre_finite_bounds : Cert.Pre_finite_bounds.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal_finite_bounds m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)) →
    ∃ (v0 : (c : Dev Cert.KernelFIdeal.nD) → Buf (Elt Ideal) ((c.tc : Thread Cert.KernelFIdeal.nD Cert.KernelFIdeal.τ).loc Cert.KernelFIdeal.main_v1_2)) (v1 : (c : Dev Cert.KernelFIdeal.nD) → Buf (Elt Ideal) ((c.tc : Thread Cert.KernelFIdeal.nD Cert.KernelFIdeal.τ).loc Cert.KernelFIdeal.main_v1_0)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v1_2) = v0 c
          ∧ r.2.mem ((c.tc : Thread Cert.KernelFIdeal.nD Cert.KernelFIdeal.τ).loc Cert.KernelFIdeal.main_v1_0) = v1 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v37) = v0 c
          ∧ r.2.mem ((c.tc : Thread Cert.ReferenceFIdeal.nD Cert.ReferenceFIdeal.τ).loc Cert.ReferenceFIdeal.main_v41) = v1 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3))

def Claim : Prop :=
  ∃ (hKernel : Cert.Kernel.Facts) (hKernelIdeal : Cert.KernelIdeal.Facts) (hReferenceIdeal : Cert.ReferenceIdeal.Facts) (hKernelZ : Cert.KernelZ.Facts) (hKernelZIdeal : Cert.KernelZIdeal.Facts) (hReferenceZIdeal : Cert.ReferenceZIdeal.Facts) (hKernelO : Cert.KernelO.Facts) (hKernelOIdeal : Cert.KernelOIdeal.Facts) (hReferenceOIdeal : Cert.ReferenceOIdeal.Facts) (hKernelN : Cert.KernelN.Facts) (hKernelNIdeal : Cert.KernelNIdeal.Facts) (hReferenceNIdeal : Cert.ReferenceNIdeal.Facts) (hKernelV : Cert.KernelV.Facts) (hKernelVIdeal : Cert.KernelVIdeal.Facts) (hReferenceVIdeal : Cert.ReferenceVIdeal.Facts) (hKernelQ : Cert.KernelQ.Facts) (hKernelQIdeal : Cert.KernelQIdeal.Facts) (hReferenceQIdeal : Cert.ReferenceQIdeal.Facts) (hKernelU : Cert.KernelU.Facts) (hKernelUIdeal : Cert.KernelUIdeal.Facts) (hReferenceUIdeal : Cert.ReferenceUIdeal.Facts) (hKernelY : Cert.KernelY.Facts) (hKernelYIdeal : Cert.KernelYIdeal.Facts) (hReferenceYIdeal : Cert.ReferenceYIdeal.Facts) (hKernelK : Cert.KernelK.Facts) (hKernelKIdeal : Cert.KernelKIdeal.Facts) (hReferenceKIdeal : Cert.ReferenceKIdeal.Facts) (hKernelS : Cert.KernelS.Facts) (hKernelSIdeal : Cert.KernelSIdeal.Facts) (hReferenceSIdeal : Cert.ReferenceSIdeal.Facts) (hKernelF : Cert.KernelF.Facts) (hKernelFIdeal : Cert.KernelFIdeal.Facts) (hReferenceFIdeal : Cert.ReferenceFIdeal.Facts) (hPre_finite : Cert.Pre_finite.Facts) (hPre_finite_bounds : Cert.Pre_finite_bounds.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelZ (hKernelZ := hKernelZ)
    ∧ quiescent_KernelZIdeal (hKernelZIdeal := hKernelZIdeal)
    ∧ quiescent_ReferenceZIdeal (hReferenceZIdeal := hReferenceZIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelU (hKernelU := hKernelU)
    ∧ quiescent_KernelUIdeal (hKernelUIdeal := hKernelUIdeal)
    ∧ quiescent_ReferenceUIdeal (hReferenceUIdeal := hReferenceUIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelK (hKernelK := hKernelK)
    ∧ quiescent_KernelKIdeal (hKernelKIdeal := hKernelKIdeal)
    ∧ quiescent_ReferenceKIdeal (hReferenceKIdeal := hReferenceKIdeal)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelF (hKernelF := hKernelF)
    ∧ quiescent_KernelFIdeal (hKernelFIdeal := hKernelFIdeal)
    ∧ quiescent_KernelFIdeal_pre_finite_bounds (hKernelFIdeal := hKernelFIdeal) (hPre_finite_bounds := hPre_finite_bounds)
    ∧ quiescent_ReferenceFIdeal (hReferenceFIdeal := hReferenceFIdeal)
    ∧ quiescent_ReferenceFIdeal_pre_finite_bounds (hReferenceFIdeal := hReferenceFIdeal) (hPre_finite_bounds := hPre_finite_bounds)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelZ_KernelZIdeal
    ∧ algebraic_KernelZIdeal_ReferenceZIdeal (hKernelZIdeal := hKernelZIdeal) (hReferenceZIdeal := hReferenceZIdeal)
    ∧ preserves_KernelO_KernelOIdeal
    ∧ algebraic_KernelOIdeal_ReferenceOIdeal (hKernelOIdeal := hKernelOIdeal) (hReferenceOIdeal := hReferenceOIdeal)
    ∧ preserves_KernelN_KernelNIdeal
    ∧ algebraic_KernelNIdeal_ReferenceNIdeal (hKernelNIdeal := hKernelNIdeal) (hReferenceNIdeal := hReferenceNIdeal)
    ∧ preserves_KernelV_KernelVIdeal
    ∧ algebraic_KernelVIdeal_ReferenceVIdeal (hKernelVIdeal := hKernelVIdeal) (hReferenceVIdeal := hReferenceVIdeal)
    ∧ preserves_KernelQ_KernelQIdeal
    ∧ algebraic_KernelQIdeal_ReferenceQIdeal (hKernelQIdeal := hKernelQIdeal) (hReferenceQIdeal := hReferenceQIdeal)
    ∧ preserves_KernelU_KernelUIdeal
    ∧ algebraic_KernelUIdeal_ReferenceUIdeal (hKernelUIdeal := hKernelUIdeal) (hReferenceUIdeal := hReferenceUIdeal)
    ∧ preserves_KernelY_KernelYIdeal
    ∧ algebraic_KernelYIdeal_ReferenceYIdeal (hKernelYIdeal := hKernelYIdeal) (hReferenceYIdeal := hReferenceYIdeal)
    ∧ preserves_KernelK_KernelKIdeal
    ∧ algebraic_KernelKIdeal_ReferenceKIdeal (hKernelKIdeal := hKernelKIdeal) (hReferenceKIdeal := hReferenceKIdeal)
    ∧ preserves_KernelS_KernelSIdeal
    ∧ algebraic_KernelSIdeal_ReferenceSIdeal (hKernelSIdeal := hKernelSIdeal) (hReferenceSIdeal := hReferenceSIdeal)
    ∧ preserves_KernelF_KernelFIdeal
    ∧ algebraic_KernelFIdeal_ReferenceFIdeal_pre_finite_bounds (hKernelFIdeal := hKernelFIdeal) (hReferenceFIdeal := hReferenceFIdeal) (hPre_finite_bounds := hPre_finite_bounds)
-- ==== Pre_finite.lean ====
abbrev S4x2048x4096 : Shape := ⟨3, ![4, 2048, 4096]⟩
abbrev S16x4096 : Shape := ⟨2, ![16, 4096]⟩
abbrev S4x2048x8192 : Shape := ⟨3, ![4, 2048, 8192]⟩
abbrev S16x8192 : Shape := ⟨2, ![16, 8192]⟩
abbrev S4096 : Shape := ⟨1, ![4096]⟩
abbrev S8192 : Shape := ⟨1, ![8192]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S16x4096 .f32) (main_arg2 : FVec F S4x2048x4096 .f32) (main_arg3 : FVec F S16x4096 .f32) (main_arg4 : FVec F S4x2048x4096 .f32) (main_arg5 : FVec F S16x4096 .f32) (main_arg6 : FVec F S4x2048x8192 .f32) (main_arg7 : FVec F S16x8192 .f32) (main_arg8 : FVec F S4x2048x8192 .f32) (main_arg9 : FVec F S16x8192 .f32) (main_arg10 : FVec F S4096 .f32) (main_arg11 : FVec F S8192 .f32) : IVec S_ 1 :=
  let main_v0 : FVec F S16x4096 .f32 := Host.absf main_arg5
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S4096 .f32 := Host.absf main_arg10
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Pre_finite_bounds.lean ====
abbrev S8256x4096 : Shape := ⟨2, ![8256, 4096]⟩
abbrev S4096x32768 : Shape := ⟨2, ![4096, 32768]⟩
abbrev S8192 : Shape := ⟨1, ![8192]⟩
abbrev S3x8192 : Shape := ⟨2, ![3, 8192]⟩
abbrev S_ : Shape := ⟨0, ![]⟩

class Facts : Prop where
  bcast_S_S3x8192 : S_.BroadcastsInDim S3x8192 (![] : Fin 0 → Fin S3x8192.rank)
  reducesTo_S3x8192_S_d0_1 : S3x8192.ReducesTo [0, 1] S_
  h_S_ : 0 < S_.numel

variable [Facts]

def fn {F : FTy → Type} [FloatOps F] (main_arg0 : FVec F S8256x4096 .bf16) (main_arg1 : FVec F S4096x32768 .f32) (main_arg2 : FVec F S8192 .f32) (main_arg3 : FVec F S3x8192 .f32) : IVec S_ 1 :=
  let main_v0 : FVec F S3x8192 .f32 := Host.absf main_arg3
  let main_cst : FVec F S_ .f32 := constant S_ .f32 0x7F800000#32
  let main_v1 : FVec F S3x8192 .f32 := broadcastInDim S3x8192 ![] bcast_S_S3x8192 main_cst
  let main_v2 : IVec S3x8192 1 := cmpf .olt main_v0 main_v1
  let main_c : IVec S_ 1 := constantI S_ 1 1#1
  let main_v3 : IVec S_ 1 := (fun x v => Host.reduce IntOp.andi x v reducesTo_S3x8192_S_d0_1 h_S_) main_v2 main_c
  main_v3
-- ==== Kernel.lean ====
abbrev S4x2048x4096 : Shape := ⟨3, ![4, 2048, 4096]⟩
abbrev S16x4096 : Shape := ⟨2, ![16, 4096]⟩
abbrev S4x2048x8192 : Shape := ⟨3, ![4, 2048, 8192]⟩
abbrev S16x8192 : Shape := ⟨2, ![16, 8192]⟩
abbrev S4096 : Shape := ⟨1, ![4096]⟩
abbrev S8192 : Shape := ⟨1, ![8192]⟩
abbrev S80x1 : Shape := ⟨2, ![80, 1]⟩
abbrev S1x16x4096 : Shape := ⟨3, ![1, 16, 4096]⟩
abbrev S4x16x4096 : Shape := ⟨3, ![4, 16, 4096]⟩
abbrev S4x2064x4096 : Shape := ⟨3, ![4, 2064, 4096]⟩
abbrev S_ : Shape := ⟨0, ![]⟩
abbrev S1x1x4096 : Shape := ⟨3, ![1, 1, 4096]⟩
abbrev S1x16x8192 : Shape := ⟨3, ![1, 16, 8192]⟩
abbrev S4x16x8192 : Shape := ⟨3, ![4, 16, 8192]⟩
abbrev S4x2064x8192 : Shape := ⟨3, ![4, 2064, 8192]⟩
abbrev S1x1x8192 : Shape := ⟨3, ![1, 1, 8192]⟩
abbrev S256x256 : Shape := ⟨2, ![256, 256]⟩
abbrev S80x256 : Shape := ⟨2, ![80, 256]⟩
abbrev S336x256 : Shape := ⟨2, ![336, 256]⟩
abbrev S336x512 : Shape := ⟨2, ![336, 512]⟩
abbrev S1x2064x512 : Shape := ⟨3, ![1, 2064, 512]⟩
abbrev S1x2064x1024 : Shape := ⟨3, ![1, 2064, 1024]⟩
abbrev S1x512x1024 : Shape := ⟨3, ![1, 512, 1024]⟩
abbrev S16x1024 : Shape := ⟨2, ![16, 1024]⟩
abbrev S16x256 : Shape := ⟨2, ![16, 256]⟩
abbrev S16x512 : Shape := ⟨2, ![16, 512]⟩
abbrev S1x16x512 : Shape := ⟨3, ![1, 16, 512]⟩
abbrev S240x512 : Shape := ⟨2, ![240, 512]⟩
abbrev S256x512 : Shape := ⟨2, ![256, 512]⟩
abbrev S512x512 : Shape := ⟨2, ![512, 512]⟩
abbrev S1x512 : Shape := ⟨2, ![1, 512]⟩
abbrev S1x16x1024 : Shape := ⟨3, ![1, 16, 1024]⟩
abbrev S240x1024 : Shape := ⟨2, ![240, 1024]⟩
abbrev S256x1024 : Shape := ⟨2, ![256, 1024]⟩
abbrev S512x1024 : Shape := ⟨2, ![512, 1024]⟩
abbrev S16 : Shape := ⟨1, ![16]⟩
abbrev S16x1 : Shape := ⟨2, ![16, 1]⟩
abbrev S1x256x512 : Shape := ⟨3, ![1, 256, 512]⟩
abbrev S80x512 : Shape := ⟨2, ![80, 512]⟩
abbrev S128x512 : Shape := ⟨2, ![128, 512]⟩
abbrev S128x256 : Shape := ⟨2, ![128, 256]⟩
abbrev S1x256x1024 : Shape := ⟨3, ![1, 256, 1024]⟩
abbrev S256x768 : Shape := ⟨2, ![256, 768]⟩
abbrev S768x1024 : Shape := ⟨2, ![768, 1024]⟩
abbrev S512x1 : Shape := ⟨2, ![512, 1]⟩
abbrev S256 : Shape := ⟨1, ![256]⟩
abbrev S256x1 : Shape := ⟨2, ![256, 1]⟩

abbrev nBuf : Space → Nat
  | .hbm => 202
  | .vmem => 19
  | .smem => 0
  | _ => 0

abbrev hbmTy0_0 (i : Nat) : BufTy := match i % 128 with
  | 0 => ⟨S4x2048x4096, .f32⟩
  | 1 => ⟨S16x4096, .f32⟩
  | 2 => ⟨S4x2048x4096, .f32⟩
  | 3 => ⟨S16x4096, .f32⟩
  | 4 => ⟨S4x2048x4096, .f32⟩
  | 5 => ⟨S16x4096, .f32⟩
  | 6 => ⟨S4x2048x8192, .f32⟩
  | 7 => ⟨S16x8192, .f32⟩
  | 8 => ⟨S4x2048x8192, .f32⟩
  | 9 => ⟨S16x8192, .f32⟩
  | 10 => ⟨S4096, .f32⟩
  | 11 => ⟨S8192, .f32⟩
  | 12 => ⟨S80x1, .i32⟩
  | 13 => ⟨S80x1, .i32⟩
  | 14 => ⟨S1x16x4096, .f32⟩
  | 15 => ⟨S4x16x4096, .f32⟩
  | 16 => ⟨S4x2064x4096, .f32⟩
  | 17 => ⟨S_, .f32⟩
  | 18 => ⟨S4x2064x4096, .f32⟩
  | 19 => ⟨S4x2064x4096, .f32⟩
  | 20 => ⟨S4x2064x4096, .bf16⟩
  | 21 => ⟨S1x16x4096, .f32⟩
  | 22 => ⟨S4x16x4096, .f32⟩
  | 23 => ⟨S4x2064x4096, .f32⟩
  | 24 => ⟨S1x1x4096, .f32⟩
  | 25 => ⟨S4x2064x4096, .f32⟩
  | 26 => ⟨S4x2064x4096, .f32⟩
  | 27 => ⟨S_, .f32⟩
  | 28 => ⟨S4x2064x4096, .f32⟩
  | 29 => ⟨S4x2064x4096, .f32⟩
  | 30 => ⟨S4x2064x4096, .f32⟩
  | 31 => ⟨S4x2064x4096, .f32⟩
  | 32 => ⟨S4x2064x4096, .f32⟩
  | 33 => ⟨S_, .f32⟩
  | 34 => ⟨S4x2064x4096, .f32⟩
  | 35 => ⟨S4x2064x4096, .f32⟩
  | 36 => ⟨S4x2064x4096, .f32⟩
  | 37 => ⟨S4x2064x4096, .f32⟩
  | 38 => ⟨S_, .f32⟩
  | 39 => ⟨S_, .f32⟩
  | 40 => ⟨S_, .f32⟩
  | 41 => ⟨S_, .f32⟩
  | 42 => ⟨S4x2064x4096, .f32⟩
  | 43 => ⟨S4x2064x4096, .f32⟩
  | 44 => ⟨S4x2064x4096, .bf16⟩
  | 45 => ⟨S4x2064x4096, .f32⟩
  | 46 => ⟨S4x2064x4096, .f32⟩
  | 47 => ⟨S4x2064x4096, .bf16⟩
  | 48 => ⟨S1x16x8192, .f32⟩
  | 49 => ⟨S4x16x8192, .f32⟩
  | 50 => ⟨S4x2064x8192, .f32⟩
  | 51 => ⟨S1x1x8192, .f32⟩
  | 52 => ⟨S_, .f32⟩
  | 53 => ⟨S4x2064x8192, .f32⟩
  | 54 => ⟨S4x2064x8192, .f32⟩
  | 55 => ⟨S4x2064x8192, .f32⟩
  | 56 => ⟨S_, .f32⟩
  | 57 => ⟨S4x2064x8192, .f32⟩
  | 58 => ⟨S4x2064x8192, .f32⟩
  | 59 => ⟨S_, .f32⟩
  | 60 => ⟨S4x2064x8192, .f32⟩
  | 61 => ⟨S4x2064x8192, .f32⟩
  | 62 => ⟨S4x2064x8192, .f32⟩
  | 63 => ⟨S4x2064x8192, .f32⟩
  | 64 => ⟨S4x2064x8192, .f32⟩
  | 65 => ⟨S4x2064x8192, .bf16⟩
  | 66 => ⟨S1x16x4096, .f32⟩
  | 67 => ⟨S4x16x4096, .f32⟩
  | 68 => ⟨S4x2064x4096, .f32⟩
  | 69 => ⟨S4x2064x4096, .bf16⟩
  | 70 => ⟨S1x16x8192, .f32⟩
  | 71 => ⟨S4x16x8192, .f32⟩
  | 72 => ⟨S4x2064x8192, .f32⟩
  | 73 => ⟨S4x2064x8192, .bf16⟩
  | 74 => ⟨S256x256, .i32⟩
  | 75 => ⟨S256x256, .i32⟩
  | 76 => ⟨S256x256, .i1⟩
  | 77 => ⟨S256x256, .i32⟩
  | 78 => ⟨S80x256, .i32⟩
  | 79 => ⟨S80x256, .i32⟩
  | 80 => ⟨S80x256, .i1⟩
  | 81 => ⟨S80x256, .i32⟩
  | 82 => ⟨S80x256, .i32⟩
  | 83 => ⟨S80x256, .i32⟩
  | 84 => ⟨S80x256, .i1⟩
  | 85 => ⟨S80x256, .i32⟩
  | 86 => ⟨S80x256, .i32⟩
  | 87 => ⟨S336x256, .i32⟩
  | 88 => ⟨S336x256, .bf16⟩
  | 89 => ⟨S_, .i32⟩
  | 90 => ⟨S256x256, .i32⟩
  | 91 => ⟨S256x256, .i32⟩
  | 92 => ⟨S_, .i32⟩
  | 93 => ⟨S256x256, .i32⟩
  | 94 => ⟨S256x256, .i32⟩
  | 95 => ⟨S256x256, .i1⟩
  | 96 => ⟨S256x256, .i1⟩
  | 97 => ⟨S256x256, .i1⟩
  | 98 => ⟨S_, .i32⟩
  | 99 => ⟨S_, .i32⟩
  | 100 => ⟨S256x256, .i32⟩
  | 101 => ⟨S256x256, .i32⟩
  | 102 => ⟨S256x256, .i32⟩
  | 103 => ⟨S_, .i32⟩
  | 104 => ⟨S256x256, .i32⟩
  | 105 => ⟨S256x256, .i32⟩
  | 106 => ⟨S_, .i32⟩
  | 107 => ⟨S256x256, .i32⟩
  | 108 => ⟨S256x256, .i32⟩
  | 109 => ⟨S256x256, .i1⟩
  | 110 => ⟨S_, .i32⟩
  | 111 => ⟨S256x256, .i32⟩
  | 112 => ⟨S256x256, .i32⟩
  | 113 => ⟨S_, .i32⟩
  | 114 => ⟨S256x256, .i32⟩
  | 115 => ⟨S256x256, .i1⟩
  | 116 => ⟨S256x256, .i1⟩
  | 117 => ⟨S_, .i32⟩
  | 118 => ⟨S256x256, .i32⟩
  | 119 => ⟨S256x256, .i32⟩
  | 120 => ⟨S_, .i32⟩
  | 121 => ⟨S256x256, .i32⟩
  | 122 => ⟨S256x256, .i1⟩
  | 123 => ⟨S256x256, .i1⟩
  | 124 => ⟨S_, .i32⟩
  | 125 => ⟨S256x256, .i32⟩
  | 126 => ⟨S256x256, .i32⟩
  | 127 => ⟨S_, .i32⟩
  | _ => ⟨S4x2048x4096, .f32⟩

abbrev hbmTy0_1 (i : Nat) : BufTy := match i % 128 with
  | 0 => ⟨S256x256, .i32⟩
  | 1 => ⟨S256x256, .i32⟩
  | 2 => ⟨S_, .i32⟩
  | 3 => ⟨S256x256, .i32⟩
  | 4 => ⟨S256x256, .i32⟩
  | 5 => ⟨S256x256, .i1⟩
  | 6 => ⟨S_, .i32⟩
  | 7 => ⟨S256x256, .i32⟩
  | 8 => ⟨S256x256, .i32⟩
  | 9 => ⟨S_, .i32⟩
  | 10 => ⟨S256x256, .i32⟩
  | 11 => ⟨S256x256, .i1⟩
  | 12 => ⟨S256x256, .i1⟩
  | 13 => ⟨S_, .i32⟩
  | 14 => ⟨S256x256, .i32⟩
  | 15 => ⟨S256x256, .i32⟩
  | 16 => ⟨S_, .i32⟩
  | 17 => ⟨S256x256, .i32⟩
  | 18 => ⟨S256x256, .i1⟩
  | 19 => ⟨S256x256, .i1⟩
  | 20 => ⟨S_, .i32⟩
  | 21 => ⟨S256x256, .i32⟩
  | 22 => ⟨S256x256, .i32⟩
  | 23 => ⟨S_, .i32⟩
  | 24 => ⟨S256x256, .i32⟩
  | 25 => ⟨S256x256, .i32⟩
  | 26 => ⟨S_, .i32⟩
  | 27 => ⟨S256x256, .i32⟩
  | 28 => ⟨S256x256, .i32⟩
  | 29 => ⟨S256x256, .i1⟩
  | 30 => ⟨S_, .i32⟩
  | 31 => ⟨S256x256, .i32⟩
  | 32 => ⟨S256x256, .i32⟩
  | 33 => ⟨S_, .i32⟩
  | 34 => ⟨S256x256, .i32⟩
  | 35 => ⟨S256x256, .i1⟩
  | 36 => ⟨S256x256, .i1⟩
  | 37 => ⟨S_, .i32⟩
  | 38 => ⟨S256x256, .i32⟩
  | 39 => ⟨S256x256, .i32⟩
  | 40 => ⟨S_, .i32⟩
  | 41 => ⟨S256x256, .i32⟩
  | 42 => ⟨S256x256, .i1⟩
  | 43 => ⟨S256x256, .i1⟩
  | 44 => ⟨S_, .i32⟩
  | 45 => ⟨S256x256, .i32⟩
  | 46 => ⟨S256x256, .i32⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i32⟩
  | 53 => ⟨S256x256, .i1⟩
  | 54 => ⟨S_, .i32⟩
  | 55 => ⟨S256x256, .i32⟩
  | 56 => ⟨S256x256, .i32⟩
  | 57 => ⟨S_, .i32⟩
  | 58 => ⟨S256x256, .i32⟩
  | 59 => ⟨S256x256, .i1⟩
  | 60 => ⟨S256x256, .i1⟩
  | 61 => ⟨S_, .i32⟩
  | 62 => ⟨S256x256, .i32⟩
  | 63 => ⟨S256x256, .i32⟩
  | 64 => ⟨S_, .i32⟩
  | 65 => ⟨S256x256, .i32⟩
  | 66 => ⟨S256x256, .i1⟩
  | 67 => ⟨S256x256, .i1⟩
  | 68 => ⟨S_, .i32⟩
  | 69 => ⟨S256x256, .i32⟩
  | 70 => ⟨S256x256, .i32⟩
  | 71 => ⟨S336x512, .bf16⟩
  | 72 => ⟨S4x2064x8192, .bf16⟩
  | 73 => ⟨S4x16x8192, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | .local _ .vmem, ⟨0, _⟩ => ⟨S1x2064x512, .bf16⟩
  | .local _ .vmem, ⟨1, _⟩ => ⟨S1x2064x512, .bf16⟩
  | .local _ .vmem, ⟨2, _⟩ => ⟨S1x2064x512, .bf16⟩
  | .local _ .vmem, ⟨3, _⟩ => ⟨S1x2064x512, .bf16⟩
  | .local _ .vmem, ⟨4, _⟩ => ⟨S1x2064x512, .bf16⟩
  | .local _ .vmem, ⟨5, _⟩ => ⟨S1x2064x512, .bf16⟩
  | .local _ .vmem, ⟨6, _⟩ => ⟨S1x2064x512, .bf16⟩
  | .local _ .vmem, ⟨7, _⟩ => ⟨S1x2064x512, .bf16⟩
  | .local _ .vmem, ⟨8, _⟩ => ⟨S1x2064x1024, .bf16⟩
  | .local _ .vmem, ⟨9, _⟩ => ⟨S1x2064x1024, .bf16⟩
  | .local _ .vmem, ⟨10, _⟩ => ⟨S1x2064x1024, .bf16⟩
  | .local _ .vmem, ⟨11, _⟩ => ⟨S1x2064x1024, .bf16⟩
  | .local _ .vmem, ⟨12, _⟩ => ⟨S336x512, .bf16⟩
  | .local _ .vmem, ⟨13, _⟩ => ⟨S256x256, .i32⟩
  | .local _ .vmem, ⟨14, _⟩ => ⟨S1x2064x1024, .bf16⟩
  | .local _ .vmem, ⟨15, _⟩ => ⟨S1x2064x1024, .bf16⟩
  | .local _ .vmem, ⟨16, _⟩ => ⟨S1x512x1024, .f32⟩
  | .local _ .vmem, ⟨17, _⟩ => ⟨S1x512x1024, .f32⟩
  | .local _ .vmem, ⟨18, _⟩ => ⟨S16x1024, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_8 : Ref sig .tc := ⟨.hbm, 89, rfl⟩
abbrev main_v67 : Ref sig .tc := ⟨.hbm, 90, rfl⟩
abbrev main_v68 : Ref sig .tc := ⟨.hbm, 91, rfl⟩
abbrev main_c_9 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_10 : Ref sig .tc := ⟨.hbm, 98, rfl⟩
abbrev main_c_11 : Ref sig .tc := ⟨.hbm, 99, rfl⟩
abbrev main_call0_v0 : Ref sig .tc := ⟨.hbm, 100, rfl⟩
abbrev main_call0_v1 : Ref sig .tc := ⟨.hbm, 101, rfl⟩
abbrev main_v74 : Ref sig .tc := ⟨.hbm, 102, rfl⟩
abbrev main_c_12 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_14 : Ref sig .tc := ⟨.hbm, 110, rfl⟩
abbrev main_v80 : Ref sig .tc := ⟨.hbm, 111, rfl⟩
abbrev main_v81 : Ref sig .tc := ⟨.hbm, 112, rfl⟩
abbrev main_c_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_16 : Ref sig .tc := ⟨.hbm, 117, rfl⟩
abbrev main_v85 : Ref sig .tc := ⟨.hbm, 118, rfl⟩
abbrev main_v86 : Ref sig .tc := ⟨.hbm, 119, rfl⟩
abbrev main_c_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_18 : Ref sig .tc := ⟨.hbm, 124, rfl⟩
abbrev main_call1_v0 : Ref sig .tc := ⟨.hbm, 125, rfl⟩
abbrev main_v90 : Ref sig .tc := ⟨.hbm, 126, rfl⟩
abbrev main_c_19 : Ref sig .tc := ⟨.hbm, 127, rfl⟩
abbrev main_v91 : Ref sig .tc := ⟨.hbm, 128, rfl⟩
abbrev main_v92 : Ref sig .tc := ⟨.hbm, 129, rfl⟩
abbrev main_c_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_c_21 : Ref sig .tc := ⟨.hbm, 134, rfl⟩
abbrev main_v96 : Ref sig .tc := ⟨.hbm, 135, rfl⟩
abbrev main_v97 : Ref sig .tc := ⟨.hbm, 136, rfl⟩
abbrev main_c_22 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_c_23 : Ref sig .tc := ⟨.hbm, 141, rfl⟩
abbrev main_v101 : Ref sig .tc := ⟨.hbm, 142, rfl⟩
abbrev main_v102 : Ref sig .tc := ⟨.hbm, 143, rfl⟩
abbrev main_c_24 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_25 : Ref sig .tc := ⟨.hbm, 148, rfl⟩
abbrev main_call2_v0 : Ref sig .tc := ⟨.hbm, 149, rfl⟩
abbrev main_v106 : Ref sig .tc := ⟨.hbm, 150, rfl⟩
abbrev main_c_26 : Ref sig .tc := ⟨.hbm, 151, rfl⟩
abbrev main_v107 : Ref sig .tc := ⟨.hbm, 152, rfl⟩
abbrev main_v108 : Ref sig .tc := ⟨.hbm, 153, rfl⟩
abbrev main_c_27 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_28 : Ref sig .tc := ⟨.hbm, 158, rfl⟩
abbrev main_v112 : Ref sig .tc := ⟨.hbm, 159, rfl⟩
abbrev main_v113 : Ref sig .tc := ⟨.hbm, 160, rfl⟩
abbrev main_c_29 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_c_30 : Ref sig .tc := ⟨.hbm, 165, rfl⟩
abbrev main_v117 : Ref sig .tc := ⟨.hbm, 166, rfl⟩
abbrev main_v118 : Ref sig .tc := ⟨.hbm, 167, rfl⟩
abbrev main_c_31 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_c_32 : Ref sig .tc := ⟨.hbm, 172, rfl⟩
abbrev main_call3_v0 : Ref sig .tc := ⟨.hbm, 173, rfl⟩
abbrev main_v122 : Ref sig .tc := ⟨.hbm, 174, rfl⟩
abbrev main_c_33 : Ref sig .tc := ⟨.hbm, 175, rfl⟩
abbrev main_v123 : Ref sig .tc := ⟨.hbm, 176, rfl⟩
abbrev main_v124 : Ref sig .tc := ⟨.hbm, 177, rfl⟩
abbrev main_c_34 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_35 : Ref sig .tc := ⟨.hbm, 182, rfl⟩
abbrev main_v128 : Ref sig .tc := ⟨.hbm, 183, rfl⟩
abbrev main_v129 : Ref sig .tc := ⟨.hbm, 184, rfl⟩
abbrev main_c_36 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_c_37 : Ref sig .tc := ⟨.hbm, 189, rfl⟩
abbrev main_v133 : Ref sig .tc := ⟨.hbm, 190, rfl⟩
abbrev main_v134 : Ref sig .tc := ⟨.hbm, 191, rfl⟩
abbrev main_c_38 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_c_39 : Ref sig .tc := ⟨.hbm, 196, rfl⟩
abbrev main_call4_v0 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_6 : BitVec 32 := 0#32
  let c2_i32 : BitVec 32 := 2#32
  let v25 : BitVec 32 := Scalar.addi c0_i32_6 c2_i32
  let c1_i32 : BitVec 32 := 1#32
  ⟨c0_i32_6, v25, c1_i32⟩
def k0_mult1 (k0_t1 : Fin k0_t1_loop.trips) : BitVec 32 :=
  let c0_i32_6 : BitVec 32 := 0#32
  let c1_i32 : BitVec 32 := 1#32
  let arg14 : BitVec 32 := Scf.iv c0_i32_6 c1_i32 k0_t1
  let c1024_i32 : BitVec 32 := 1024#32
  let v26 : BitVec 32 := Scalar.muli arg14 c1024_i32
  v26
def k0_off1 (k0_t1 : Fin k0_t1_loop.trips) (c0_i32_8 : BitVec 32) : Fin 3 → Nat :=
  let c0_9 : Index := 0#32
  let c0_i32_6 : BitVec 32 := 0#32
  let c1_i32 : BitVec 32 := 1#32
  let arg14 : BitVec 32 := Scf.iv c0_i32_6 c1_i32 k0_t1
  let c1024_i32 : BitVec 32 := 1024#32
  let v26 : BitVec 32 := Scalar.muli arg14 c1024_i32
  let v27 : BitVec 32 := v26
  let v28 : BitVec 32 := Scalar.addi v27 c0_i32_8
  let v32 : Index := Scalar.indexCast v28
  let c0_10 : Index := 0#32
  ![0, v32.toNat, 0]
def k0_off2 (k0_t1 : Fin k0_t1_loop.trips) (c0_i32_8 : BitVec 32) : Fin 3 → Nat :=
  let c0_90 : Index := 0#32
  let c0_i32_6 : BitVec 32 := 0#32
  let c1_i32 : BitVec 32 := 1#32
  let arg14 : BitVec 32 := Scf.iv c0_i32_6 c1_i32 k0_t1
  let c1024_i32 : BitVec 32 := 1024#32
  let v26 : BitVec 32 := Scalar.muli arg14 c1024_i32
  let v27 : BitVec 32 := v26
  let v28 : BitVec 32 := Scalar.addi v27 c0_i32_8
  let v2204 : Index := Scalar.indexCast v28
  let c0_91 : Index := 0#32
  ![0, v2204.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2064x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2064x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2064x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2064x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2064x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2064x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S336x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2064x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x2048x4096 : Shape := ⟨3, ![4, 2048, 4096]⟩
abbrev S16x4096 : Shape := ⟨2, ![16, 4096]⟩
abbrev S4x2048x8192 : Shape := ⟨3, ![4, 2048, 8192]⟩
abbrev S16x8192 : Shape := ⟨2, ![16, 8192]⟩
abbrev S4096 : Shape := ⟨1, ![4096]⟩
abbrev S8192 : Shape := ⟨1, ![8192]⟩
abbrev S1x4096 : Shape := ⟨2, ![1, 4096]⟩
abbrev S_ : Shape := ⟨0, ![]⟩
abbrev S16x8x512 : Shape := ⟨3, ![16, 8, 512]⟩
abbrev S16x8x1024 : Shape := ⟨3, ![16, 8, 1024]⟩
abbrev S8x16x512 : Shape := ⟨3, ![8, 16, 512]⟩
abbrev S8x16x1024 : Shape := ⟨3, ![8, 16, 1024]⟩
abbrev S16x16 : Shape := ⟨2, ![16, 16]⟩
abbrev S8x16x16 : Shape := ⟨3, ![8, 16, 16]⟩
abbrev S16x8 : Shape := ⟨2, ![16, 8]⟩
abbrev S16x8x1 : Shape := ⟨3, ![16, 8, 1]⟩
abbrev S1x8192 : Shape := ⟨2, ![1, 8192]⟩
abbrev S1x16x8192 : Shape := ⟨3, ![1, 16, 8192]⟩
abbrev S4x16x8192 : Shape := ⟨3, ![4, 16, 8192]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16x4096, .f32⟩
  | .hbm, ⟨2, _⟩ => ⟨S4x2048x4096, .f32⟩
  | .hbm, ⟨3, _⟩ => ⟨S16x4096, .f32⟩
  | .hbm, ⟨4, _⟩ => ⟨S4x2048x4096, .f32⟩
  | .hbm, ⟨5, _⟩ => ⟨S16x4096, .f32⟩
  | .hbm, ⟨6, _⟩ => ⟨S4x2048x8192, .f32⟩
  | .hbm, ⟨7, _⟩ => ⟨S16x8192, .f32⟩
  | .hbm, ⟨8, _⟩ => ⟨S4x2048x8192, .f32⟩
  | .hbm, ⟨9, _⟩ => ⟨S16x8192, .f32⟩
  | .hbm, ⟨10, _⟩ => ⟨S4096, .f32⟩
  | .hbm, ⟨11, _⟩ => ⟨S8192, .f32⟩
  | .hbm, ⟨12, _⟩ => ⟨S1x4096, .f32⟩
  | .hbm, ⟨13, _⟩ => ⟨S16x4096, .f32⟩
  | .hbm, ⟨14, _⟩ => ⟨S16x4096, .f32⟩
  | .hbm, ⟨15, _⟩ => ⟨S_, .f32⟩
  | .hbm, ⟨16, _⟩ => ⟨S16x4096, .f32⟩
  | .hbm, ⟨17, _⟩ => ⟨S16x4096, .f32⟩
  | .hbm, ⟨18, _⟩ => ⟨S16x4096, .f32⟩
  | .hbm, ⟨19, _⟩ => ⟨S16x4096, .f32⟩
  | .hbm, ⟨20, _⟩ => ⟨S16x4096, .f32⟩
  | .hbm, ⟨21, _⟩ => ⟨S16x4096, .f32⟩
  | .hbm, ⟨22, _⟩ => ⟨S16x4096, .f32⟩
  | .hbm, ⟨23, _⟩ => ⟨S_, .f32⟩
  | .hbm, ⟨24, _⟩ => ⟨S16x4096, .f32⟩
  | .hbm, ⟨25, _⟩ => ⟨S16x4096, .f32⟩
  | .hbm, ⟨26, _⟩ => ⟨S_, .f32⟩
  | .hbm, ⟨27, _⟩ => ⟨S16x4096, .f32⟩
  | .hbm, ⟨28, _⟩ => ⟨S16x4096, .f32⟩
  | .hbm, ⟨29, _⟩ => ⟨S16x8x512, .f32⟩
  | .hbm, ⟨30, _⟩ => ⟨S16x8x512, .f32⟩
  | .hbm, ⟨31, _⟩ => ⟨S16x8x1024, .f32⟩
  | .hbm, ⟨32, _⟩ => ⟨S16x8x512, .f32⟩
  | .hbm, ⟨33, _⟩ => ⟨S8x16x512, .f32⟩
  | .hbm, ⟨34, _⟩ => ⟨S8x16x512, .f32⟩
  | .hbm, ⟨35, _⟩ => ⟨S8x16x1024, .f32⟩
  | .hbm, ⟨36, _⟩ => ⟨S8x16x512, .f32⟩
  | .hbm, ⟨37, _⟩ => ⟨S_, .f32⟩
  | .hbm, ⟨38, _⟩ => ⟨S_, .f32⟩
  | .hbm, ⟨39, _⟩ => ⟨S8x16x512, .f32⟩
  | .hbm, ⟨40, _⟩ => ⟨S8x16x512, .f32⟩
  | .hbm, ⟨41, _⟩ => ⟨S8x16x512, .f32⟩
  | .hbm, ⟨42, _⟩ => ⟨S8x16x512, .f32⟩
  | .hbm, ⟨43, _⟩ => ⟨S8x16x512, .f32⟩
  | .hbm, ⟨44, _⟩ => ⟨S8x16x512, .f32⟩
  | .hbm, ⟨45, _⟩ => ⟨S_, .i1⟩
  | .hbm, ⟨46, _⟩ => ⟨S16x16, .i1⟩
  | .hbm, ⟨47, _⟩ => ⟨S16x16, .i32⟩
  | .hbm, ⟨48, _⟩ => ⟨S_, .i32⟩
  | .hbm, ⟨49, _⟩ => ⟨S16x16, .i32⟩
  | .hbm, ⟨50, _⟩ => ⟨S16x16, .i32⟩
  | .hbm, ⟨51, _⟩ => ⟨S16x16, .i32⟩
  | .hbm, ⟨52, _⟩ => ⟨S16x16, .i1⟩
  | .hbm, ⟨53, _⟩ => ⟨S_, .i1⟩
  | .hbm, ⟨54, _⟩ => ⟨S16x16, .i1⟩
  | .hbm, ⟨55, _⟩ => ⟨S16x16, .i1⟩
  | .hbm, ⟨56, _⟩ => ⟨S8x16x16, .f32⟩
  | .hbm, ⟨57, _⟩ => ⟨S_, .f32⟩
  | .hbm, ⟨58, _⟩ => ⟨S_, .f32⟩
  | .hbm, ⟨59, _⟩ => ⟨S8x16x16, .i1⟩
  | .hbm, ⟨60, _⟩ => ⟨S8x16x16, .f32⟩
  | .hbm, ⟨61, _⟩ => ⟨S8x16x16, .f32⟩
  | .hbm, ⟨62, _⟩ => ⟨S8x16x1024, .f32⟩
  | .hbm, ⟨63, _⟩ => ⟨S16x8x1024, .f32⟩
  | .hbm, ⟨64, _⟩ => ⟨S16x8x1024, .f32⟩
  | .hbm, ⟨65, _⟩ => ⟨S_, .f32⟩
  | .hbm, ⟨66, _⟩ => ⟨S16x8, .f32⟩
  | .hbm, ⟨67, _⟩ => ⟨S16x8x1, .f32⟩
  | .hbm, ⟨68, _⟩ => ⟨S_, .f32⟩
  | .hbm, ⟨69, _⟩ => ⟨S16x8x1, .f32⟩
  | .hbm, ⟨70, _⟩ => ⟨S16x8x1, .f32⟩
  | .hbm, ⟨71, _⟩ => ⟨S_, .f32⟩
  | .hbm, ⟨72, _⟩ => ⟨S16x8x1, .f32⟩
  | .hbm, ⟨73, _⟩ => ⟨S16x8x1, .f32⟩
  | .hbm, ⟨74, _⟩ => ⟨S16x8x1, .f32⟩
  | .hbm, ⟨75, _⟩ => ⟨S16x8x1024, .f32⟩
  | .hbm, ⟨76, _⟩ => ⟨S16x8x1024, .f32⟩
  | .hbm, ⟨77, _⟩ => ⟨S16x8192, .f32⟩
  | .hbm, ⟨78, _⟩ => ⟨S1x8192, .f32⟩
  | .hbm, ⟨79, _⟩ => ⟨S16x8192, .f32⟩
  | .hbm, ⟨80, _⟩ => ⟨S16x8192, .f32⟩
  | .hbm, ⟨81, _⟩ => ⟨S16x8192, .f32⟩
  | .hbm, ⟨82, _⟩ => ⟨S16x8192, .f32⟩
  | .hbm, ⟨83, _⟩ => ⟨S_, .f32⟩
  | .hbm, ⟨84, _⟩ => ⟨S16x8192, .f32⟩
  | .hbm, ⟨85, _⟩ => ⟨S16x8192, .f32⟩
  | .hbm, ⟨86, _⟩ => ⟨S_, .f32⟩
  | .hbm, ⟨87, _⟩ => ⟨S16x8192, .f32⟩
  | .hbm, ⟨88, _⟩ => ⟨S16x8192, .f32⟩
  | .hbm, ⟨89, _⟩ => ⟨S16x8192, .f32⟩
  | .hbm, ⟨90, _⟩ => ⟨S16x8192, .f32⟩
  | .hbm, ⟨91, _⟩ => ⟨S16x8192, .bf16⟩
  | .hbm, ⟨92, _⟩ => ⟨S1x16x8192, .bf16⟩
  | .hbm, ⟨93, _⟩ => ⟨S4x16x8192, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_call0_cst : Ref sig .tc := ⟨.hbm, 37, rfl⟩
abbrev main_call0_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_v28 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v29 : Ref sig .tc := ⟨.hbm, 55, rfl⟩
abbrev main_v30 : Ref sig .tc := ⟨.hbm, 56, rfl⟩
abbrev main_cst_2 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_3 : Ref sig .tc := ⟨.hbm, 65, rfl⟩
abbrev main_v35 : Ref sig .tc := ⟨.hbm, 66, rfl⟩
abbrev main_v36 : Ref sig .tc := ⟨.hbm, 67, rfl⟩
abbrev main_cst_4 : Ref sig .tc := ⟨.hbm, 68, rfl⟩
abbrev main_v37 : Ref sig .tc := ⟨.hbm, 69, rfl⟩
abbrev main_v38 : Ref sig .tc := ⟨.hbm, 70, rfl⟩
abbrev main_cst_5 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩

abbrev nD : Nat := 1
abbrev τ : Topo := Topo.v7x

variable {F : FTy → Type} [FloatOps F]
-- ==== KernelZ.lean ====
abbrev S8256x4096 : Shape := ⟨2, ![8256, 4096]⟩
abbrev S4096x24576 : Shape := ⟨2, ![4096, 24576]⟩
abbrev S8192 : Shape := ⟨1, ![8192]⟩
abbrev S1x8192 : Shape := ⟨2, ![1, 8192]⟩
abbrev S8256x8192 : Shape := ⟨2, ![8256, 8192]⟩
abbrev S1376x4096 : Shape := ⟨2, ![1376, 4096]⟩
abbrev S4096x512 : Shape := ⟨2, ![4096, 512]⟩
abbrev S1x512 : Shape := ⟨2, ![1, 512]⟩
abbrev S1376x512 : Shape := ⟨2, ![1376, 512]⟩

abbrev nBuf : Space → Nat
  | .hbm => 5
  | .vmem => 8
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8192, .f32⟩
  | .hbm, ⟨3, _⟩ => ⟨S1x8192, .f32⟩
  | .hbm, ⟨4, _⟩ => ⟨S8256x8192, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S1376x512, .bf16⟩
  | .local _ .vmem, ⟨7, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1376x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceZIdeal.lean ====
abbrev S8256x4096 : Shape := ⟨2, ![8256, 4096]⟩
abbrev S4096x24576 : Shape := ⟨2, ![4096, 24576]⟩
abbrev S8192 : Shape := ⟨1, ![8192]⟩
abbrev S4096x8192 : Shape := ⟨2, ![4096, 8192]⟩
abbrev S8256x8192 : Shape := ⟨2, ![8256, 8192]⟩
abbrev S_ : Shape := ⟨0, ![]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8192, .f32⟩
  | .hbm, ⟨3, _⟩ => ⟨S8256x4096, .f32⟩
  | .hbm, ⟨4, _⟩ => ⟨S4096x8192, .f32⟩
  | .hbm, ⟨5, _⟩ => ⟨S8256x8192, .f32⟩
  | .hbm, ⟨6, _⟩ => ⟨S8256x8192, .f32⟩
  | .hbm, ⟨7, _⟩ => ⟨S8256x8192, .f32⟩
  | .hbm, ⟨8, _⟩ => ⟨S_, .f32⟩
  | .hbm, ⟨9, _⟩ => ⟨S8256x8192, .f32⟩
  | .hbm, ⟨10, _⟩ => ⟨S8256x8192, .f32⟩
  | .hbm, ⟨11, _⟩ => ⟨S_, .f32⟩
  | .hbm, ⟨12, _⟩ => ⟨S8256x8192, .f32⟩
  | .hbm, ⟨13, _⟩ => ⟨S8256x8192, .f32⟩
  | .hbm, ⟨14, _⟩ => ⟨S8256x8192, .f32⟩
  | .hbm, ⟨15, _⟩ => ⟨S1x8192, .f32⟩
  | .hbm, ⟨16, _⟩ => ⟨S8256x8192, .f32⟩
  | .hbm, ⟨17, _⟩ => ⟨S8256x8192, .f32⟩
  | .hbm, ⟨18, _⟩ => ⟨S8256x8192, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelO.lean ====
abbrev S8256x8192 : Shape := ⟨2, ![8256, 8192]⟩
abbrev S8192x4096 : Shape := ⟨2, ![8192, 4096]⟩
abbrev S8256x4096 : Shape := ⟨2, ![8256, 4096]⟩
abbrev S2064x1024 : Shape := ⟨2, ![2064, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x8192, .bf16⟩
  | .hbm, ⟨1, _⟩ => ⟨S8192x4096, .f32⟩
  | .hbm, ⟨2, _⟩ => ⟨S8256x4096, .bf16⟩
  | .local _ .vmem, ⟨0, _⟩ => ⟨S2064x1024, .bf16⟩
  | .local _ .vmem, ⟨1, _⟩ => ⟨S2064x1024, .bf16⟩
  | .local _ .vmem, ⟨2, _⟩ => ⟨S1024x1024, .f32⟩
  | .local _ .vmem, ⟨3, _⟩ => ⟨S1024x1024, .f32⟩
  | .local _ .vmem, ⟨4, _⟩ => ⟨S2064x1024, .bf16⟩
  | .local _ .vmem, ⟨5, _⟩ => ⟨S2064x1024, .bf16⟩
  | .local _ .vmem, ⟨6, _⟩ => ⟨S2064x1024, .f32⟩
  | _, _ => ⟨S8256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2064x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOIdeal.lean ====
abbrev S8256x8192 : Shape := ⟨2, ![8256, 8192]⟩
abbrev S8192x4096 : Shape := ⟨2, ![8192, 4096]⟩
abbrev S8256x4096 : Shape := ⟨2, ![8256, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8256x8192, .bf16⟩
  | .hbm, ⟨1, _⟩ => ⟨S8192x4096, .f32⟩
  | .hbm, ⟨2, _⟩ => ⟨S8256x8192, .f32⟩
  | .hbm, ⟨3, _⟩ => ⟨S8256x4096, .f32⟩
  | .hbm, ⟨4, _⟩ => ⟨S8256x4096, .bf16⟩
  | _, _ => ⟨S8256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelN.lean ====
abbrev S4x2064x4096 : Shape := ⟨3, ![4, 2064, 4096]⟩
abbrev S4096 : Shape := ⟨1, ![4096]⟩
abbrev S1x4096 : Shape := ⟨2, ![1, 4096]⟩
abbrev S4x2048x4096 : Shape := ⟨3, ![4, 2048, 4096]⟩
abbrev S1x512x4096 : Shape := ⟨3, ![1, 512, 4096]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x2064x4096, .f32⟩
  | .hbm, ⟨1, _⟩ => ⟨S4x2064x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S4x2048x4096, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .bf16⟩
  | .local _ .vmem, ⟨3, _⟩ => ⟨S1x512x4096, .bf16⟩
  | .local _ .vmem, ⟨4, _⟩ => ⟨S1x4096, .f32⟩
  | .local _ .vmem, ⟨5, _⟩ => ⟨S1x4096, .f32⟩
  | .local _ .vmem, ⟨6, _⟩ => ⟨S1x512x4096, .f32⟩
  | .local _ .vmem, ⟨7, _⟩ => ⟨S1x512x4096, .f32⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceNIdeal.lean ====
abbrev S4x2064x4096 : Shape := ⟨3, ![4, 2064, 4096]⟩
abbrev S4096 : Shape := ⟨1, ![4096]⟩
abbrev S_ : Shape := ⟨0, ![]⟩
abbrev S4x2064 : Shape := ⟨2, ![4, 2064]⟩
abbrev S4x2064x1 : Shape := ⟨3, ![4, 2064, 1]⟩
abbrev S1x1x4096 : Shape := ⟨3, ![1, 1, 4096]⟩
abbrev S4x2048x4096 : Shape := ⟨3, ![4, 2048, 4096]⟩

abbrev nBuf : Space → Nat
  | .hbm => 39
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S4x2064x4096, .bf16⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S4x2064x4096, .f32⟩
  | .hbm, ⟨6, _⟩ => ⟨S4x2064x4096, .f32⟩
  | .hbm, ⟨7, _⟩ => ⟨S4x2064x4096, .f32⟩
  | .hbm, ⟨8, _⟩ => ⟨S4x2064x4096, .f32⟩
  | .hbm, ⟨9, _⟩ => ⟨S_, .f32⟩
  | .hbm, ⟨10, _⟩ => ⟨S4x2064, .f32⟩
  | .hbm, ⟨11, _⟩ => ⟨S4x2064x1, .f32⟩
  | .hbm, ⟨12, _⟩ => ⟨S_, .f32⟩
  | .hbm, ⟨13, _⟩ => ⟨S4x2064x1, .f32⟩
  | .hbm, ⟨14, _⟩ => ⟨S4x2064x1, .f32⟩
  | .hbm, ⟨15, _⟩ => ⟨S4x2064x4096, .f32⟩
  | .hbm, ⟨16, _⟩ => ⟨S4x2064x4096, .f32⟩
  | .hbm, ⟨17, _⟩ => ⟨S4x2064x4096, .f32⟩
  | .hbm, ⟨18, _⟩ => ⟨S_, .f32⟩
  | .hbm, ⟨19, _⟩ => ⟨S4x2064, .f32⟩
  | .hbm, ⟨20, _⟩ => ⟨S4x2064x1, .f32⟩
  | .hbm, ⟨21, _⟩ => ⟨S_, .f32⟩
  | .hbm, ⟨22, _⟩ => ⟨S4x2064x1, .f32⟩
  | .hbm, ⟨23, _⟩ => ⟨S4x2064x1, .f32⟩
  | .hbm, ⟨24, _⟩ => ⟨S4x2064x4096, .f32⟩
  | .hbm, ⟨25, _⟩ => ⟨S4x2064x4096, .f32⟩
  | .hbm, ⟨26, _⟩ => ⟨S_, .f32⟩
  | .hbm, ⟨27, _⟩ => ⟨S4x2064x1, .f32⟩
  | .hbm, ⟨28, _⟩ => ⟨S4x2064x1, .f32⟩
  | .hbm, ⟨29, _⟩ => ⟨S4x2064x1, .f32⟩
  | .hbm, ⟨30, _⟩ => ⟨S4x2064x4096, .f32⟩
  | .hbm, ⟨31, _⟩ => ⟨S4x2064x4096, .f32⟩
  | .hbm, ⟨32, _⟩ => ⟨S1x1x4096, .f32⟩
  | .hbm, ⟨33, _⟩ => ⟨S4x2064x4096, .f32⟩
  | .hbm, ⟨34, _⟩ => ⟨S4x2064x4096, .f32⟩
  | .hbm, ⟨35, _⟩ => ⟨S1x1x4096, .f32⟩
  | .hbm, ⟨36, _⟩ => ⟨S4x2064x4096, .f32⟩
  | .hbm, ⟨37, _⟩ => ⟨S4x2064x4096, .f32⟩
  | .hbm, ⟨38, _⟩ => ⟨S4x2048x4096, .f32⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== KernelV.lean ====
abbrev S8256x4096 : Shape := ⟨2, ![8256, 4096]⟩
abbrev S4096x24576 : Shape := ⟨2, ![4096, 24576]⟩
abbrev S8256x8192 : Shape := ⟨2, ![8256, 8192]⟩
abbrev S1376x4096 : Shape := ⟨2, ![1376, 4096]⟩
abbrev S4096x512 : Shape := ⟨2, ![4096, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8256x8192, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceVIdeal.lean ====
abbrev S8256x4096 : Shape := ⟨2, ![8256, 4096]⟩
abbrev S4096x24576 : Shape := ⟨2, ![4096, 24576]⟩
abbrev S4096x8192 : Shape := ⟨2, ![4096, 8192]⟩
abbrev S8256x8192 : Shape := ⟨2, ![8256, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8256x4096, .f32⟩
  | .hbm, ⟨3, _⟩ => ⟨S4096x8192, .f32⟩
  | .hbm, ⟨4, _⟩ => ⟨S8256x8192, .f32⟩
  | .hbm, ⟨5, _⟩ => ⟨S8256x8192, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelQ.lean ====
abbrev S8256x4096 : Shape := ⟨2, ![8256, 4096]⟩
abbrev S4096x32768 : Shape := ⟨2, ![4096, 32768]⟩
abbrev S8256x8192 : Shape := ⟨2, ![8256, 8192]⟩
abbrev S1376x4096 : Shape := ⟨2, ![1376, 4096]⟩
abbrev S4096x512 : Shape := ⟨2, ![4096, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8256x8192, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQIdeal.lean ====
abbrev S8256x4096 : Shape := ⟨2, ![8256, 4096]⟩
abbrev S4096x32768 : Shape := ⟨2, ![4096, 32768]⟩
abbrev S4096x8192 : Shape := ⟨2, ![4096, 8192]⟩
abbrev S8256x8192 : Shape := ⟨2, ![8256, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8256x4096, .f32⟩
  | .hbm, ⟨3, _⟩ => ⟨S4096x8192, .f32⟩
  | .hbm, ⟨4, _⟩ => ⟨S8256x8192, .f32⟩
  | .hbm, ⟨5, _⟩ => ⟨S8256x8192, .f32⟩
  | .hbm, ⟨6, _⟩ => ⟨S8256x8192, .f32⟩
  | .hbm, ⟨7, _⟩ => ⟨S_, .f32⟩
  | .hbm, ⟨8, _⟩ => ⟨S8256x8192, .f32⟩
  | .hbm, ⟨9, _⟩ => ⟨S8256x8192, .f32⟩
  | .hbm, ⟨10, _⟩ => ⟨S_, .f32⟩
  | .hbm, ⟨11, _⟩ => ⟨S8256x8192, .f32⟩
  | .hbm, ⟨12, _⟩ => ⟨S8256x8192, .f32⟩
  | .hbm, ⟨13, _⟩ => ⟨S8256x8192, .f32⟩
  | .hbm, ⟨14, _⟩ => ⟨S8256x8192, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== KernelU.lean ====
abbrev S8256x4096 : Shape := ⟨2, ![8256, 4096]⟩
abbrev S4096x32768 : Shape := ⟨2, ![4096, 32768]⟩
abbrev S8256x8192 : Shape := ⟨2, ![8256, 8192]⟩
abbrev S1376x4096 : Shape := ⟨2, ![1376, 4096]⟩
abbrev S4096x512 : Shape := ⟨2, ![4096, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8256x8192, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUIdeal.lean ====
abbrev S8256x4096 : Shape := ⟨2, ![8256, 4096]⟩
abbrev S4096x32768 : Shape := ⟨2, ![4096, 32768]⟩
abbrev S4096x8192 : Shape := ⟨2, ![4096, 8192]⟩
abbrev S8256x8192 : Shape := ⟨2, ![8256, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8256x4096, .f32⟩
  | .hbm, ⟨3, _⟩ => ⟨S4096x8192, .f32⟩
  | .hbm, ⟨4, _⟩ => ⟨S8256x8192, .f32⟩
  | .hbm, ⟨5, _⟩ => ⟨S8256x8192, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelY.lean ====
abbrev S8256x4096 : Shape := ⟨2, ![8256, 4096]⟩
abbrev S4096x32768 : Shape := ⟨2, ![4096, 32768]⟩
abbrev S8192 : Shape := ⟨1, ![8192]⟩
abbrev S1x8192 : Shape := ⟨2, ![1, 8192]⟩
abbrev S8256x8192 : Shape := ⟨2, ![8256, 8192]⟩
abbrev S1376x4096 : Shape := ⟨2, ![1376, 4096]⟩
abbrev S4096x512 : Shape := ⟨2, ![4096, 512]⟩
abbrev S1x512 : Shape := ⟨2, ![1, 512]⟩
abbrev S1376x512 : Shape := ⟨2, ![1376, 512]⟩

abbrev nBuf : Space → Nat
  | .hbm => 5
  | .vmem => 8
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8192, .f32⟩
  | .hbm, ⟨3, _⟩ => ⟨S1x8192, .f32⟩
  | .hbm, ⟨4, _⟩ => ⟨S8256x8192, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S1376x512, .bf16⟩
  | .local _ .vmem, ⟨7, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi arg1 c48_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1376x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceYIdeal.lean ====
abbrev S8256x4096 : Shape := ⟨2, ![8256, 4096]⟩
abbrev S4096x32768 : Shape := ⟨2, ![4096, 32768]⟩
abbrev S8192 : Shape := ⟨1, ![8192]⟩
abbrev S4096x8192 : Shape := ⟨2, ![4096, 8192]⟩
abbrev S8256x8192 : Shape := ⟨2, ![8256, 8192]⟩
abbrev S_ : Shape := ⟨0, ![]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8192, .f32⟩
  | .hbm, ⟨3, _⟩ => ⟨S8256x4096, .f32⟩
  | .hbm, ⟨4, _⟩ => ⟨S4096x8192, .f32⟩
  | .hbm, ⟨5, _⟩ => ⟨S8256x8192, .f32⟩
  | .hbm, ⟨6, _⟩ => ⟨S8256x8192, .f32⟩
  | .hbm, ⟨7, _⟩ => ⟨S8256x8192, .f32⟩
  | .hbm, ⟨8, _⟩ => ⟨S_, .f32⟩
  | .hbm, ⟨9, _⟩ => ⟨S8256x8192, .f32⟩
  | .hbm, ⟨10, _⟩ => ⟨S8256x8192, .f32⟩
  | .hbm, ⟨11, _⟩ => ⟨S_, .f32⟩
  | .hbm, ⟨12, _⟩ => ⟨S8256x8192, .f32⟩
  | .hbm, ⟨13, _⟩ => ⟨S8256x8192, .f32⟩
  | .hbm, ⟨14, _⟩ => ⟨S8256x8192, .f32⟩
  | .hbm, ⟨15, _⟩ => ⟨S1x8192, .f32⟩
  | .hbm, ⟨16, _⟩ => ⟨S8256x8192, .f32⟩
  | .hbm, ⟨17, _⟩ => ⟨S8256x8192, .f32⟩
  | .hbm, ⟨18, _⟩ => ⟨S8256x8192, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelK.lean ====
abbrev S8256x4096 : Shape := ⟨2, ![8256, 4096]⟩
abbrev S4096x24576 : Shape := ⟨2, ![4096, 24576]⟩
abbrev S1376x4096 : Shape := ⟨2, ![1376, 4096]⟩
abbrev S4096x512 : Shape := ⟨2, ![4096, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8256x4096, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKIdeal.lean ====
abbrev S8256x4096 : Shape := ⟨2, ![8256, 4096]⟩
abbrev S4096x24576 : Shape := ⟨2, ![4096, 24576]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8256x4096, .f32⟩
  | .hbm, ⟨3, _⟩ => ⟨S4096x4096, .f32⟩
  | .hbm, ⟨4, _⟩ => ⟨S8256x4096, .f32⟩
  | .hbm, ⟨5, _⟩ => ⟨S8256x4096, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelS.lean ====
abbrev S8256x4096 : Shape := ⟨2, ![8256, 4096]⟩
abbrev S4096x24576 : Shape := ⟨2, ![4096, 24576]⟩
abbrev S1376x4096 : Shape := ⟨2, ![1376, 4096]⟩
abbrev S4096x512 : Shape := ⟨2, ![4096, 512]⟩
abbrev S1376x512 : Shape := ⟨2, ![1376, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8256x4096, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSIdeal.lean ====
abbrev S8256x4096 : Shape := ⟨2, ![8256, 4096]⟩
abbrev S4096x24576 : Shape := ⟨2, ![4096, 24576]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x24576, .f32⟩
  | .hbm, ⟨2, _⟩ => ⟨S8256x4096, .f32⟩
  | .hbm, ⟨3, _⟩ => ⟨S4096x4096, .f32⟩
  | .hbm, ⟨4, _⟩ => ⟨S8256x4096, .f32⟩
  | .hbm, ⟨5, _⟩ => ⟨S_, .f32⟩
  | .hbm, ⟨6, _⟩ => ⟨S8256x4096, .f32⟩
  | .hbm, ⟨7, _⟩ => ⟨S8256x4096, .f32⟩
  | .hbm, ⟨8, _⟩ => ⟨S8256x4096, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelF.lean ====
abbrev S8256x4096 : Shape := ⟨2, ![8256, 4096]⟩
abbrev S4096x32768 : Shape := ⟨2, ![4096, 32768]⟩
abbrev S8192 : Shape := ⟨1, ![8192]⟩
abbrev S3x8192 : Shape := ⟨2, ![3, 8192]⟩
abbrev S1x8192 : Shape := ⟨2, ![1, 8192]⟩
abbrev S8256x8192 : Shape := ⟨2, ![8256, 8192]⟩
abbrev S1376x4096 : Shape := ⟨2, ![1376, 4096]⟩
abbrev S4096x512 : Shape := ⟨2, ![4096, 512]⟩
abbrev S1x512 : Shape := ⟨2, ![1, 512]⟩
abbrev S3x512 : Shape := ⟨2, ![3, 512]⟩
abbrev S1376x512 : Shape := ⟨2, ![1376, 512]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8192, .f32⟩
  | .hbm, ⟨3, _⟩ => ⟨S3x8192, .f32⟩
  | .hbm, ⟨4, _⟩ => ⟨S1x8192, .f32⟩
  | .hbm, ⟨5, _⟩ => ⟨S8256x8192, .bf16⟩
  | .hbm, ⟨6, _⟩ => ⟨S8256x8192, .bf16⟩
  | .hbm, ⟨7, _⟩ => ⟨S8256x8192, .bf16⟩
  | .local _ .vmem, ⟨0, _⟩ => ⟨S1376x4096, .bf16⟩
  | .local _ .vmem, ⟨1, _⟩ => ⟨S1376x4096, .bf16⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S3x512, .f32⟩
  | .local _ .vmem, ⟨7, _⟩ => ⟨S3x512, .f32⟩
  | .local _ .vmem, ⟨8, _⟩ => ⟨S1376x512, .bf16⟩
  | .local _ .vmem, ⟨9, _⟩ => ⟨S1376x512, .bf16⟩
  | .local _ .vmem, ⟨10, _⟩ => ⟨S1376x512, .bf16⟩
  | .local _ .vmem, ⟨11, _⟩ => ⟨S1376x512, .bf16⟩
  | .local _ .vmem, ⟨12, _⟩ => ⟨S1376x512, .bf16⟩
  | .local _ .vmem, ⟨13, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1376x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1376x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1376x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceFIdeal.lean ====
abbrev S8256x4096 : Shape := ⟨2, ![8256, 4096]⟩
abbrev S4096x32768 : Shape := ⟨2, ![4096, 32768]⟩
abbrev S8192 : Shape := ⟨1, ![8192]⟩
abbrev S3x8192 : Shape := ⟨2, ![3, 8192]⟩
abbrev S4096x8192 : Shape := ⟨2, ![4096, 8192]⟩
abbrev S8256x8192 : Shape := ⟨2, ![8256, 8192]⟩
abbrev S_ : Shape := ⟨0, ![]⟩
abbrev S1x8192 : Shape := ⟨2, ![1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4096x32768, .f32⟩
  | .hbm, ⟨2, _⟩ => ⟨S8192, .f32⟩
  | .hbm, ⟨3, _⟩ => ⟨S3x8192, .f32⟩
  | .hbm, ⟨4, _⟩ => ⟨S8256x4096, .f32⟩
  | .hbm, ⟨5, _⟩ => ⟨S4096x8192, .f32⟩
  | .hbm, ⟨6, _⟩ => ⟨S8256x8192, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S1x8192, .f32⟩
  | .hbm, ⟨13, _⟩ => ⟨S3x8192, .f32⟩
  | .hbm, ⟨14, _⟩ => ⟨S3x8192, .f32⟩
  | .hbm, ⟨15, _⟩ => ⟨S3x8192, .f32⟩
  | .hbm, ⟨16, _⟩ => ⟨S_, .f32⟩
  | .hbm, ⟨17, _⟩ => ⟨S8192, .f32⟩
  | .hbm, ⟨18, _⟩ => ⟨S1x8192, .f32⟩
  | .hbm, ⟨19, _⟩ => ⟨S3x8192, .f32⟩
  | .hbm, ⟨20, _⟩ => ⟨S3x8192, .f32⟩
  | .hbm, ⟨21, _⟩ => ⟨S_, .f32⟩
  | .hbm, ⟨22, _⟩ => ⟨S_, .f32⟩
  | .hbm, ⟨23, _⟩ => ⟨S3x8192, .f32⟩
  | .hbm, ⟨24, _⟩ => ⟨S1x8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S1x8192, .f32⟩
  | .hbm, ⟨30, _⟩ => ⟨S8256x8192, .f32⟩
  | .hbm, ⟨31, _⟩ => ⟨S8256x8192, .f32⟩
  | .hbm, ⟨32, _⟩ => ⟨S8256x8192, .f32⟩
  | .hbm, ⟨33, _⟩ => ⟨S8256x8192, .f32⟩
  | .hbm, ⟨34, _⟩ => ⟨S_, .f32⟩
  | .hbm, ⟨35, _⟩ => ⟨S8256x8192, .f32⟩
  | .hbm, ⟨36, _⟩ => ⟨S8256x8192, .f32⟩
  | .hbm, ⟨37, _⟩ => ⟨S_, .f32⟩
  | .hbm, ⟨38, _⟩ => ⟨S8256x8192, .f32⟩
  | .hbm, ⟨39, _⟩ => ⟨S8256x8192, .f32⟩
  | .hbm, ⟨40, _⟩ => ⟨S1x8192, .f32⟩
  | .hbm, ⟨41, _⟩ => ⟨S8256x8192, .f32⟩
  | .hbm, ⟨42, _⟩ => ⟨S8256x8192, .f32⟩
  | .hbm, ⟨43, _⟩ => ⟨S1x8192, .f32⟩
  | .hbm, ⟨44, _⟩ => ⟨S8256x8192, .f32⟩
  | .hbm, ⟨45, _⟩ => ⟨S8256x8192, .f32⟩
  | .hbm, ⟨46, _⟩ => ⟨S_, .f32⟩
  | .hbm, ⟨47, _⟩ => ⟨S8256x8192, .f32⟩
  | .hbm, ⟨48, _⟩ => ⟨S8256x8192, .f32⟩
  | .hbm, ⟨49, _⟩ => ⟨S8256x8192, .f32⟩
  | .hbm, ⟨50, _⟩ => ⟨S8256x8192, .bf16⟩
  | .hbm, ⟨51, _⟩ => ⟨S_, .f32⟩
  | .hbm, ⟨52, _⟩ => ⟨S_, .f32⟩
  | .hbm, ⟨53, _⟩ => ⟨S8256x8192, .f32⟩
  | .hbm, ⟨54, _⟩ => ⟨S8256x8192, .f32⟩
  | .hbm, ⟨55, _⟩ => ⟨S8256x8192, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_call0_cst : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.AttnLoop.lean ====
module

public import proofs.«01_k».proof.Proof.Gen.KernelIdeal.Loops

/-!
# The attention kernel's loop does not look at what the output window held before

The body of the attention kernel stores each block of 256 output rows through a rectangle it has
loaded first and then not used. So the pieces the loop writes are found as functions of
the output window's former contents although they do not depend on them. Here that is said:
the loop's pieces are the same for any former contents of the output window.
-/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip writes the same pieces whatever the output window held. -/
theorem trip_any (𝒱 : Variants) (c : Dev nD) (bd : Option 𝒱.V) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (v0 : Vec F S256x256 .i32) (v17 : Vec F S336x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)
    (f f' : BufTy.Contents (Elt F) arg10.view.ty) (g : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v17 X_arg2 X_arg3 X_arg4 X_arg5 X_arg6 X_arg7 k f g
      = tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v17 X_arg2 X_arg3 X_arg4 X_arg5 X_arg6 X_arg7 k f' g := by
  unfold tripL_k0_t1 trip_k0_t1
  rfl

/-- The pieces of the first `n` trips are the same whatever the output window held. -/
theorem trips_any (𝒱 : Variants) (c : Dev nD) (bd : Option 𝒱.V) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (v0 : Vec F S256x256 .i32) (v17 : Vec F S336x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg10 : BufTy.Contents (Elt F) arg10.view.ty) (G_arg11 : BufTy.Contents (Elt F) arg11.view.ty) (G' : BufTy.Contents (Elt F) arg10.view.ty) (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 v0 v17 X_arg2 X_arg3 X_arg4 X_arg5 X_arg6 X_arg7 G_arg10 G_arg11 n
      = pb_k0_t1 (F := F) 𝒱 c bd i arg2 harg2 arg3 harg3 arg4 harg4 arg5 harg5 arg6 harg6 arg7 harg7 arg8 harg8 arg9 harg9 arg10 harg10 arg11 harg11 arg12 harg12 arg13 harg13 v0 v17 X_arg2 X_arg3 X_arg4 X_arg5 X_arg6 X_arg7 G' G_arg11 n := by
  induction n with
  | zero => rfl
  | succ n ih =>
    rw [pb_k0_t1.eq_2, pb_k0_t1.eq_2, ih]
    unfold pb_k0_t1Step
    by_cases h : n < k0_t1_loop.trips
    · rw [dif_pos h, dif_pos h]
      rw [trip_any (F := F) 𝒱 c bd i arg2 harg2 arg3 harg3 arg4 harg4 arg5 harg5 arg6 harg6 arg7 harg7 arg8 harg8 arg9 harg9 arg10 harg10 arg11 harg11 arg12 harg12 arg13 harg13 v0 v17 X_arg2 X_arg3 X_arg4 X_arg5 X_arg6 X_arg7 ⟨n, h⟩ (arg10.view.writes (Elt F) G_arg10 _) (arg10.view.writes (Elt F) G' _)]
    · rw [dif_neg h, dif_neg h]

end Cert.KernelIdeal.Gen

end
-- ==== Proof.AttnRun.lean ====
/- The attention's body at one grid point, in the two cases of its first branch: the first point of a group of heads computes
   the meta tokens, the later points take what it kept. -/
module

public import proofs.«01_k».proof.Proof.Gen.KernelIdeal.Frame.Runs
public import proofs.«01_k».proof.Proof.AttnLoop

@[expose] public section

/-!
# One grid point of the attention kernel, run

The body has two cases: the first part of a head (case A), which starts the state from zero, puts the
meta tokens through it and keeps what they leave, and a later part of a head (case B), which takes up
the kept state. In each case the body is run once; what its stores leave in the output window and in the
carried buffers is found by that run. The loop's pieces are put in the form that does not mention the
output window's former contents before the buffers are handed over.
-/

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken, `scf.if` 1 not taken: points 0, 4, … 28: 8 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : cond0_0 i) (hc1 : ¬cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) :
    Σ' (L8 : List (View.Piece (Elt F) S1x2064x1024 .bf16)), Σ' (LS1 : List (View.Piece (Elt F) S1x512x1024 .f32)), { LS2 : List (View.Piece (Elt F) S16x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_gla_attention i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_gla_attention_eq_skeleton]; unfold cc0_gla_attention_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    rw [trips_any (G' := arg10.view.junk)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [HS1]; · iexists _; iexact HS1
    iexists _; iexact HS2

-- (the run's proof term is large: the definition's epilogue — `abstractNestedProofs` — walks it past the default budget)
set_option maxHeartbeats 16000000 in
/-- What the body's stores leave in each output's staging memref, as pieces (last first) IN CASE B (`scf.if` 0 not taken, `scf.if` 1 taken: points 1, 2, … 31: 24 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : ¬cond0_0 i) (hc1 : cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (xs1 : Vec F S1x512x1024 .f32) (xs2 : Vec F S16x1024 .bf16) :
    Σ' (L8 : List (View.Piece (Elt F) S1x2064x1024 .bf16)), Σ' (LS1 : List (View.Piece (Elt F) S1x512x1024 .f32)), { LS2 : List (View.Piece (Elt F) S16x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs1 ∗ owns (c : Thread nD τ) arg13 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ d, owns (c : Thread nD τ) arg11 fullShare d) ∗ owns (c : Thread nD τ) arg12 fullShare xs1 ∗ owns (c : Thread nD τ) arg13 fullShare xs2) -∗ K ⟨⟩))
          ⊢ wp frame (wpE (defs₀ (F := F)) Variants.none c none) E (cc0_gla_attention i arg2 harg2 arg3 harg3 arg4 harg4 arg5 harg5 arg6 harg6 arg7 harg7 arg8 harg8 arg9 harg9 arg10 harg10 arg11 harg11 arg12 harg12 arg13 harg13) K } := by
  refine ⟨?_, [], [], fun E K => ?run⟩
  case run =>
    simp only [cc0_gla_attention_eq_skeleton]; unfold cc0_gla_attention_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs1; obtain rfl := harg13.eq_unread hfs2
    sl_exec (disch := first | sl_exact hc0 | sl_exact hc1)
    rw [trips_any (G' := arg10.view.junk)]
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]
    · iexists _, _; isplitr; swap; · iexact HS0
      ipureintro; rfl
    isplitl [HS1]
    · iexists _; isplitr; · ipureintro; exact harg12.read_unread _
      iexact HS1
    iexists _; isplitr; · ipureintro; exact harg13.read_unread _
    iexact HS2

end Cert.KernelIdeal.Gen

end
-- ==== Proof.AttnFrame.lean ====
/- The frame of the attention: every run of the kernel ends, and its arguments are as they were. -/
module

public import proofs.«01_k».proof.Proof.AttnRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 are of SEVERAL sizes (9 stores of `S1x16x1024`, `S1x256x1024`): cut into blocks of `![1, 16, 1024]` they tile its block (checked by the kernel's evaluation: Lib/Ring.lean `Piece.tiledBy`), so they cover it. -/
theorem cover0_A_8 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : cond0_0 i) (hc1 : ¬cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (y : S1x2064x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1 ![1, 16, 1024] (by sl_kernel_rfl) y

/-- What case A leaves in output 8's staging buffer: its pieces read back over junk. -/
def out0_A_8 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : cond0_0 i) (hc1 : ¬cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) : Vec F S1x2064x1024 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).1)

/-- Case A's pieces for scratch `arg12`, which the kernel carries between points, cover it: 1 piece of `S1x512x1024` tiling it (Lib/Ring.lean `Piece.tiledL`). -/
theorem scover0_A_1 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : cond0_0 i) (hc1 : ¬cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1 S1x512x1024.size (by sl_kernel_rfl) y

/-- What case A leaves in scratch `arg12`: its pieces read back over junk. -/
def sout0_A_1 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : cond0_0 i) (hc1 : ¬cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) : Vec F S1x512x1024 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.1)

/-- Case A's pieces for scratch `arg13`, which the kernel carries between points, cover it: 1 piece of `S16x1024` tiling it (Lib/Ring.lean `Piece.tiledL`). -/
theorem scover0_A_2 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : cond0_0 i) (hc1 : ¬cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (y : S16x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1 S16x1024.size (by sl_kernel_rfl) y

/-- What case A leaves in scratch `arg13`: its pieces read back over junk. -/
def sout0_A_2 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : cond0_0 i) (hc1 : ¬cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) : Vec F S16x1024 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7).2.2.1)

/-- Case B's pieces for output 8 are of SEVERAL sizes (9 stores of `S1x16x1024`, `S1x256x1024`): cut into blocks of `![1, 16, 1024]` they tile its block (checked by the kernel's evaluation: Lib/Ring.lean `Piece.tiledBy`), so they cover it. -/
theorem cover0_B_8 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : ¬cond0_0 i) (hc1 : cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (xs1 : Vec F S1x512x1024 .f32) (xs2 : Vec F S16x1024 .bf16) (y : S1x2064x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 xs2).1, y ∈ pc.1.set :=
  View.cover_of_tiledBy (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 xs2).1 ![1, 16, 1024] (by sl_kernel_rfl) y

/-- What case B leaves in output 8's staging buffer: its pieces read back over junk. -/
def out0_B_8 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : ¬cond0_0 i) (hc1 : cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (xs1 : Vec F S1x512x1024 .f32) (xs2 : Vec F S16x1024 .bf16) : Vec F S1x2064x1024 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 xs2).1)

/-- Case B stores nothing into scratch `arg12`: it holds what the point before left. -/
def sout0_B_1 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : ¬cond0_0 i) (hc1 : cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (xs1 : Vec F S1x512x1024 .f32) (xs2 : Vec F S16x1024 .bf16) : Vec F S1x512x1024 .f32 := xs1

/-- Case B stores nothing into scratch `arg13`: it holds what the point before left. -/
def sout0_B_2 (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole) (hc0 : ¬cond0_0 i) (hc1 : cond0_1 i)
    (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32) (xs1 : Vec F S1x512x1024 .f32) (xs2 : Vec F S16x1024 .bf16) : Vec F S16x1024 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2064x1024 .bf16 × Vec F S1x512x1024 .f32 × Vec F S16x1024 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      if h1 : 1 ≤ (n + 1) % 4 then
        False.elim (by have hN : n + 1 < 32 := lt_of_lt_of_eq hn (show cfg0.N = 32 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : 1 ≤ (n + 1) % 4 then
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 4 = 0) (h1 : ¬1 ≤ t.val % 4) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : 1 ≤ t.val % 4) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.1) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.1) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : 1 ≤ t.val % 4
    · exfalso; omega
    · by_cases hz : t.val = 0
      · rw [PhiS_castSucc m c t, PhiS_zero m c _ _ hz, PhiA0_eq]
        rw [outsAt0_A m c t h0 h1]
        unfold out0_A_8 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        isplitl [HS2]; · iexact HS2
        iintro ⟨H0, H1, H2, H3, H4, H5, H6, H7, ⟨%e8, H8⟩, HS0, ⟨%es1, HS1⟩, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_8 sout0_A_1 sout0_A_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexists _; iexact HS1
        isplitl [HS2]; · iexists _; iexact HS2
        iintro ⟨H0, H1, H2, H3, H4, H5, H6, H7, ⟨%e8, H8⟩, HS0, ⟨%es1, HS1⟩, ⟨%es2, HS2⟩⟩
        isplitl [HS0 HS1 HS2 Hg]
        · isplitl [HS0 HS1 HS2]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _)
  · by_cases h1 : 1 ≤ t.val % 4
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_8 sout0_B_1 sout0_B_2; (try dsimp only)
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [HS0]; · iexact HS0
        isplitl [HS1]; · iexact HS1
        isplitl [HS2]; · iexact HS2
        iintro ⟨H0, H1, H2, H3, H4, H5, H6, H7, ⟨%e8, H8⟩, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.AttnMeta.lean ====
module

public import proofs.«01_k».proof.Proof.Gen.KernelIdeal.Skeleton
public import Idealize.ShloMosaic.Lib.Pointwise

/-!
# What the attention kernel stores for the meta tokens

The kernel's part for the 16 meta tokens works on tables and blocks padded with zeros to 256 rows. Here one
element of what it stores is read as a formula over the 16 meta tokens alone.
-/

@[expose] public section

noncomputable section

namespace Cert.KernelIdeal.Hand

open Cert.KernelIdeal Cert.KernelIdeal.Gen Idealize.ShloMosaic Idealize.ShloMosaic.TcCoe Idealize.SL.Sem

/-- The sum of the first `i + 1` of sixteen terms. -/
def running (f : Fin 16 → EReal) (i : Fin 16) : EReal := ∑ s : Fin 16, if s.val ≤ i.val then f s else 0

/-- Causal attention of 16 tokens with decayed queries and keys: element `d` of token `i`. -/
def mixed (q k : Fin 16 → Fin 512 → EReal) (v : Fin 16 → Fin 1024 → EReal) (i : Fin 16) (d : Fin 1024) : EReal :=
  ∑ s : Fin 16, (if s.val ≤ i.val then ∑ x : Fin 512, q i x * k s x else 0) * v s d

/-- The reciprocal of the root mean square of one token's 1024 elements. -/
def scale (o : Fin 1024 → EReal) : EReal :=
  Ideal.rsqrt (Ideal.div (∑ x, o x * o x) (Ideal.ofBits .f32 0x44800000#32) + Ideal.ofBits .f32 0x358637BD#32)

/-- A sum over padded rows is the sum over the first sixteen when the others are zero. -/
theorem sum_padded {N : Nat} (h : 16 ≤ N) (f : Fin N → EReal) (z : ∀ x : Fin N, 16 ≤ x.val → f x = 0) :
    ∑ x, f x = ∑ s : Fin 16, f (Fin.castLE h s) := by
  symm
  have e := Finset.sum_map (Finset.univ : Finset (Fin 16)) (Fin.castLEEmb h) f
  refine Eq.trans (b := ∑ x ∈ Finset.univ.map (Fin.castLEEmb h), f x) e.symm ?_
  refine Finset.sum_subset (Finset.subset_univ _) fun x _ hx => z x ?_
  by_contra hlt
  exact hx (Finset.mem_map.mpr ⟨⟨x.val, by omega⟩, Finset.mem_univ _, Fin.ext rfl⟩)

/-- The choice by a level that is not zero gives zero. -/
theorem select_other (w : BitVec 32) (a : EReal) (h : ¬ w = 0#32) :
    Scalar.select (IntOp.cmpi .eq w 0#32) a (0 : EReal) = 0 := by
  have : (w == 0#32) = false := by simpa using h
  simp only [IntOp.cmpi, Scalar.select, this]
  rfl

section

variable (s : Vec Ideal S336x512 .bf16) (h l q k : Vec Ideal S1x16x512 .bf16) (v z : Vec Ideal S1x16x1024 .bf16)
  (t : Vec Ideal S256x256 .i32)

/-- The table of sums adds, for a meta token, the meta tokens up to it, in both halves. -/
def SumsMeta : Prop := ∀ (i : Fin 16) (x : Fin 512),
  s (ix2 ⟨i.val, by omega⟩ x) = if x.val % 256 ≤ i.val then (1 : EReal) else 0

/-- The table of levels marks with zero, for a meta token, exactly the meta tokens up to it. -/
def LevelsMeta : Prop := ∀ (i : Fin 16) (x : Fin 256), t (ix2 ⟨i.val, by omega⟩ x) = 0#32 ↔ x.val ≤ i.val

/-- The accumulated decay of a meta token, when the low halves of the decays are zero. -/
theorem decay_entry (hs : SumsMeta s) (hl : ∀ j, l j = (0 : EReal)) (i : Fin 16) (d : Fin 512) :
    k0_pay22 (F := Ideal) (k0_pay17 s) h l (ix2 i d) = running (fun r => h (ix3 0 r d)) i := by
  unfold k0_pay22 k0_pay17
  pointwise
  refine (sum_padded (by omega) _ fun x hx => ?_).trans (Finset.sum_congr rfl fun r _ => ?_)
  · by_cases h1 : x.val < 256
    · rw [dif_pos h1, dif_neg (by omega), mul_zero]
    · rw [dif_neg h1]
      split
      · rw [hl, mul_zero]
      · rw [mul_zero]
  · have hr : r.val < 16 := r.isLt
    have e : s (ix2 ⟨i.val, by omega⟩ (Fin.castLE (by omega) r)) = if r.val ≤ i.val then (1 : EReal) else 0 := by
      rw [hs]
      show (if r.val % 256 ≤ i.val then (1 : EReal) else 0) = _
      rw [Nat.mod_eq_of_lt (by omega)]
    rw [e, dif_pos (show (Fin.castLE (by omega : 16 ≤ 512) r).val < 256 from by show r.val < 256; omega),
      dif_pos (show (Fin.castLE (by omega : 16 ≤ 512) r).val < 16 from hr)]
    by_cases hi : r.val ≤ i.val
    · rw [if_pos hi, if_pos hi, one_mul]; rfl
    · rw [if_neg hi, if_neg hi, zero_mul]

/-- The decayed query. -/
theorem query_entry (hs : SumsMeta s) (hl : ∀ j, l j = (0 : EReal)) (i : Fin 16) (d : Fin 512) :
    k0_pay24 (F := Ideal) (k0_pay17 s) h l q (ix2 i d)
      = q (ix3 0 i d) * FloatOps.exp2 (F := Ideal) (φ := .f32) (running (fun r => h (ix3 0 r d)) i) := by
  rw [← decay_entry s h l hs hl i d]
  unfold k0_pay24
  generalize k0_pay22 (F := Ideal) (k0_pay17 s) h l = b
  pointwise

/-- The key with its decay undone, for one of the sixteen rows. -/
theorem key_entry (hs : SumsMeta s) (hl : ∀ j, l j = (0 : EReal)) (i : Fin 16) (d : Fin 512) :
    k0_pay25 (F := Ideal) (k0_pay17 s) h l k (ix2 (Fin.castLE (by omega : 16 ≤ 256) i) d)
      = k (ix3 0 i d) * FloatOps.exp2 (F := Ideal) (φ := .f32) (0 - running (fun r => h (ix3 0 r d)) i) := by
  rw [← decay_entry s h l hs hl i d]
  unfold k0_pay25 k0_pay23
  generalize k0_pay22 (F := Ideal) (k0_pay17 s) h l = b
  pointwise
  exact dif_pos i.isLt

/-- The value, for one of the sixteen rows. -/
theorem value_entry (i : Fin 16) (d : Fin 1024) :
    k0_pay27 (F := Ideal) v (ix2 (Fin.castLE (by omega : 16 ≤ 256) i) d) = v (ix3 0 i d) := by
  unfold k0_pay27
  pointwise
  exact dif_pos i.isLt

/-- One element of what the kernel stores for the meta tokens. -/
theorem meta_entry (hs : SumsMeta s) (ht : LevelsMeta t) (hl : ∀ j, l j = (0 : EReal)) (i : Fin 16) (d : Fin 1024) :
    let o := mixed (fun i x => q (ix3 0 i x) * FloatOps.exp2 (F := Ideal) (φ := .f32) (running (fun r => h (ix3 0 r x)) i))
      (fun i x => k (ix3 0 i x) * FloatOps.exp2 (F := Ideal) (φ := .f32) (0 - running (fun r => h (ix3 0 r x)) i))
      (fun i x => v (ix3 0 i x))
    k0_pay30 (F := Ideal) (k0_pay24 (k0_pay17 s) h l q) (k0_pay25 (k0_pay17 s) h l k) (k0_pay27 v) (k0_pay28 t) z (ix3 0 i d)
      = o i d * scale (o i) * z (ix3 0 i d) := by
  intro o
  have lv : ∀ x : Fin 256, k0_pay28 t (ix2 i x) = t (ix2 ⟨i.val, by omega⟩ x) := by
    intro x
    unfold k0_pay28
    pointwise
  have e : ∀ d : Fin 1024, (∑ x : Fin 256, Scalar.select (IntOp.cmpi .eq (k0_pay28 t (ix2 i x)) 0#32)
      ((∑ y : Fin 512, k0_pay24 (F := Ideal) (k0_pay17 s) h l q (ix2 i y) * k0_pay25 (F := Ideal) (k0_pay17 s) h l k (ix2 x y)))
      0 * k0_pay27 (F := Ideal) v (ix2 x d) : EReal) = o i d := by
    intro d
    refine (sum_padded (by omega) _ fun x hx => ?_).trans (Finset.sum_congr rfl fun r _ => ?_)
    · have ne : ¬ t (ix2 ⟨i.val, by omega⟩ x) = 0#32 := fun h0 => by
        have := (ht i x).mp h0
        omega
      rw [lv, select_other _ _ ne, zero_mul]
    · rw [lv, value_entry]
      refine congrArg (· * v (ix3 0 r d)) ?_
      have iff := ht i (Fin.castLE (by omega) r)
      by_cases hi : r.val ≤ i.val
      · have h0 := iff.mpr hi
        rw [h0, if_pos hi]
        refine Eq.trans (b := ∑ y : Fin 512, k0_pay24 (F := Ideal) (k0_pay17 s) h l q (ix2 i y)
          * k0_pay25 (F := Ideal) (k0_pay17 s) h l k (ix2 (Fin.castLE (by omega) r) y)) rfl ?_
        exact Finset.sum_congr rfl fun y _ => by rw [query_entry s h l q hs hl, key_entry s h l k hs hl]
      · have ne : ¬ t (ix2 ⟨i.val, by omega⟩ (Fin.castLE (by omega) r)) = 0#32 := fun h0 => hi (iff.mp h0)
        rw [if_neg hi, select_other _ _ ne]
  unfold scale
  simp only [← e]
  unfold k0_pay30
  generalize k0_pay24 (F := Ideal) (k0_pay17 s) h l q = q'
  generalize k0_pay25 (F := Ideal) (k0_pay17 s) h l k = k'
  generalize k0_pay27 (F := Ideal) v = v'
  generalize k0_pay28 t = t'
  pointwise

end

end Cert.KernelIdeal.Hand

end
-- ==== Proof.AttnHost.lean ====
/- The arrays that the attention's call takes, at the rows of the meta tokens, from the arguments of the program. -/
module

public import proofs.«01_k».proof.Proof.AttnFrame
public import proofs.«01_k».proof.Proof.AttnMeta
public import Idealize.ShloMosaic.Lib.Pointwise

@[expose] public section

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ)

/-- The row of the call's arguments and result that holds a meta token. -/
abbrev metaRow (i : Fin 16) : Fin 2064 := ⟨2048 + i.val, by omega⟩

/-- The arguments that hold the meta tokens' rows. -/
abbrev argQ (c : Dev nD) : Vec Ideal S16x4096 .f32 := m (c, Proc.tc.devRef main_arg1)
@[inherit_doc argQ] abbrev argK (c : Dev nD) : Vec Ideal S16x4096 .f32 := m (c, Proc.tc.devRef main_arg3)
@[inherit_doc argQ] abbrev argG (c : Dev nD) : Vec Ideal S16x4096 .f32 := m (c, Proc.tc.devRef main_arg5)
@[inherit_doc argQ] abbrev argV (c : Dev nD) : Vec Ideal S16x8192 .f32 := m (c, Proc.tc.devRef main_arg7)
@[inherit_doc argQ] abbrev argZ (c : Dev nD) : Vec Ideal S16x8192 .f32 := m (c, Proc.tc.devRef main_arg9)

/-- The bias of the gate and the gain of the head norm. -/
abbrev argB (c : Dev nD) : Vec Ideal S4096 .f32 := m (c, Proc.tc.devRef main_arg10)
@[inherit_doc argB] abbrev argN (c : Dev nD) : Vec Ideal S8192 .f32 := m (c, Proc.tc.devRef main_arg11)

/-- The pre-activation of the gate of a meta token. -/
def gate (c : Dev nD) (i : Fin 16) (n : Fin 4096) : EReal :=
  argG m c (ix2 i n) + argB m c (ix1 n)

/-- The decay of a meta token as the call takes it: a logarithm to base two. -/
def decay (c : Dev nD) (i : Fin 16) (n : Fin 4096) : EReal :=
  Ideal.div (min (gate m c i n) 0 - Ideal.log (1 + Ideal.exp (-FloatOps.absf (F := Ideal) (φ := .f32) (gate m c i n))))
    (Ideal.ofBits FTy.f32 0x41800000#32 * Ideal.log (Ideal.ofBits FTy.f32 0x40000000#32))

set_option maxHeartbeats 4000000 in
theorem q_entry (c : Dev nD) (b : Fin 4) (i : Fin 16) (n : Fin 4096) :
    V m c main_v5 (ix3 b (metaRow i) n)
      = (argQ m c (ix2 i n) * Ideal.ofBits FTy.f32 0x3D3504F3#32 : EReal) := by
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  pointwise
  after_results_simp
  pointwise

set_option maxHeartbeats 4000000 in
theorem hi_entry (c : Dev nD) (b : Fin 4) (i : Fin 16) (n : Fin 4096) :
    V m c main_v25 (ix3 b (metaRow i) n) = decay m c i n := by
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  pointwise
  after_results_simp
  pointwise
  rfl

set_option maxHeartbeats 4000000 in
theorem lo_entry (c : Dev nD) (b : Fin 4) (i : Fin 16) (n : Fin 4096) :
    V m c main_v28 (ix3 b (metaRow i) n) = decay m c i n - decay m c i n := by
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  pointwise
  after_results_simp
  pointwise
  rfl

set_option maxHeartbeats 4000000 in
theorem z_entry (c : Dev nD) (b : Fin 4) (i : Fin 16) (n : Fin 8192) :
    V m c main_v43 (ix3 b (metaRow i) n)
      = (argZ m c (ix2 i n)
        * (Ideal.ofBits FTy.f32 0x3F000000#32 + Ideal.ofBits FTy.f32 0x3F000000#32
          * Ideal.tanh (Ideal.ofBits FTy.f32 0x3F000000#32 * argZ m c (ix2 i n)))
        * argN m c (ix1 n) : EReal) := by
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  pointwise
  after_results_simp
  pointwise

set_option maxHeartbeats 4000000 in
theorem k_entry (c : Dev nD) (b : Fin 4) (i : Fin 16) (n : Fin 4096) :
    V m c main_v47 (ix3 b (metaRow i) n) = (argK m c (ix2 i n) : EReal) := by
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  pointwise
  after_results_simp
  pointwise

set_option maxHeartbeats 4000000 in
theorem v_entry (c : Dev nD) (b : Fin 4) (i : Fin 16) (n : Fin 8192) :
    V m c main_v51 (ix3 b (metaRow i) n) = (argV m c (ix2 i n) : EReal) := by
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  pointwise
  after_results_simp
  pointwise

/-- Whether one token is at or before another, as a number. -/
theorem upto_entry (i : Fin 16) (x : Fin 256) :
    FloatOps.sitofp (F := Ideal) .bf16
      (BitVec.setWidth 32 (IntOp.cmpi .sle (BitVec.ofNat 32 x.val) (BitVec.ofNat 32 i.val)))
      = if x.val ≤ i.val then (1 : EReal) else 0 := by
  have h : ∀ (i : Fin 16) (x : Fin 256), BitVec.setWidth 32 (IntOp.cmpi .sle (BitVec.ofNat 32 x.val) (BitVec.ofNat 32 i.val))
      = if x.val ≤ i.val then 1#32 else 0#32 := by decide +kernel
  rw [h]
  split
  · show ((((1#32 : BitVec 32).toInt : ℝ)) : EReal) = 1
    norm_num
  · show ((((0#32 : BitVec 32).toInt : ℝ)) : EReal) = 0
    norm_num

set_option maxHeartbeats 4000000 in
/-- The table that the decays are summed with. -/
theorem sums_entry (c : Dev nD) : SumsMeta (V m c main_v139) := by
  intro i x
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  pointwise
  after_results_simp
  pointwise
  have hi : i.val < 256 := by omega
  simp only [hi, dif_pos]
  split
  · rename_i h
    rw [Nat.mod_eq_of_lt h]
    exact upto_entry i ⟨x.val, h⟩
  · rename_i h
    have e : x.val % 256 = x.val - 256 := by omega
    rw [e]
    exact upto_entry i ⟨x.val - 256, by omega⟩

/-- A constant table. -/
abbrev same (w : BitVec 32) : IVec S256x256 32 := broadcastInDim S256x256 ![] bcast_S_S256x256 (constantI S_ 32 w)

/-- The table of levels with one more level: pairs of tokens in one part of `g`, the later one in its upper half. -/
def withLevel (g half l : BitVec 32) (t : IVec S256x256 32) : IVec S256x256 32 :=
  select (andi (andi (cmpi .eq (Host.divsi (iotaInDim S256x256 32 0) (same g)) (Host.divsi (iotaInDim S256x256 32 1) (same g)))
      (cmpi .sge (Host.remsi (iotaInDim S256x256 32 0) (same g)) (same half)))
    (cmpi .slt (Host.remsi (iotaInDim S256x256 32 1) (same g)) (same half))) (same l) t

/-- The table of the first level: pairs of tokens in one part of sixteen, the first one not before the second. -/
def firstLevel : IVec S256x256 32 :=
  select (andi (cmpi .eq (Host.divsi (iotaInDim S256x256 32 0) (same 16#32)) (Host.divsi (iotaInDim S256x256 32 1) (same 16#32)))
    (cmpi .sle (iotaInDim S256x256 32 1) (iotaInDim S256x256 32 0))) (same 0#32) (same 4294967295#32)

/-- A level whose upper half starts after the meta tokens does not change their rows. -/
theorem withLevel_entry (g half l : BitVec 32) (t : IVec S256x256 32) (i : Fin 16) (x : Fin 256)
    (h : IntOp.cmpi .sge (IntOp.remsi .host (BitVec.ofNat 32 i.val) g) half = 0#1) :
    withLevel g half l t (ix2 ⟨i.val, by omega⟩ x) = t (ix2 ⟨i.val, by omega⟩ x) := by
  unfold withLevel same
  pointwise
  have z : ∀ a b : BitVec 1, IntOp.andi (IntOp.andi a 0#1) b = 0#1 := by decide +kernel
  rw [h, z]
  rfl

theorem firstLevel_entry (i : Fin 16) (x : Fin 256) :
    firstLevel (ix2 ⟨i.val, by omega⟩ x) = 0#32 ↔ x.val ≤ i.val := by
  unfold firstLevel same
  pointwise
  revert i x
  decide +kernel

set_option maxHeartbeats 4000000 in
theorem levels_eq (c : Dev nD) : V m c main_v138
    = withLevel 256#32 128#32 4#32 (withLevel 128#32 64#32 3#32 (withLevel 64#32 32#32 2#32 (withLevel 32#32 16#32 1#32 firstLevel))) := by
  simp only [V, V0, hostOps0, hostOps0_1, hostOps0_2, hostOps0_3, hostOps0_4, hostOps0_5, hostOps0_6, hostOps0_7,
    hostOps0_8, hostOps0_9, hostOps0_10, List.flatten_cons, List.flatten_nil, List.append_nil, List.cons_append,
    List.nil_append]
  after_results_simp
  rfl

/-- The table of levels. -/
theorem levels_entry (c : Dev nD) : LevelsMeta (V m c main_v138) := by
  intro i x
  rw [levels_eq, withLevel_entry, withLevel_entry, withLevel_entry, withLevel_entry, firstLevel_entry]
  all_goals revert i; decide +kernel

end Cert.KernelIdeal.Hand

end
-- ==== Proof.AttnMetaRun.lean ====
/- The rows of the meta tokens in what each grid point stores: the first point of a group computes them and keeps them, the
   later ones store what was kept. -/
module

public import proofs.«01_k».proof.Proof.AttnHost
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

section

variable {F : FTy → Type} [FloatOps F]

/-- A write of the meta tokens' rows, read back at one of them. -/
theorem read_rows {κ : Kind} {sp : Space} (v : View sig κ sp S1x2064x1024 .bf16) (f : BufTy.Contents (Elt F) v.ty)
    (inb : ∀ a, (![0, 2048, 0] : Fin 3 → ℕ) a + (![1, 16, 1024] : Fin 3 → ℕ) a ≤ S1x2064x1024.size a) (w : S1x16x1024.Idx → Elt F .bf16)
    (L : List (View.Piece (Elt F) S1x2064x1024 .bf16)) (r : Fin 16) (d : Fin 1024) :
    v.read (Elt F) (v.writes (Elt F) f (⟨Rect.unit ![0, 2048, 0] ![1, 16, 1024] inb, w⟩ :: L)) (ix3 0 (metaRow r) d) = w (ix3 0 r d) := by
  refine View.read_writes_cons_unit_of_mem v f inb w L (ix3 0 (metaRow r) d) (ix3 0 r d) rfl ?_
  intro a
  match a with
  | ⟨0, _⟩ => rfl
  | ⟨1, _⟩ => rfl
  | ⟨2, _⟩ => exact (Nat.zero_add _).symm

/-- A write of a whole scratch buffer, read back. -/
theorem read_all {κ : Kind} {sp : Space} (v : View sig κ sp S16x1024 .bf16) (f : BufTy.Contents (Elt F) v.ty)
    (inb : ∀ a, (![0, 0] : Fin 2 → ℕ) a + (![16, 1024] : Fin 2 → ℕ) a ≤ S16x1024.size a) (w : S16x1024.Idx → Elt F .bf16)
    (L : List (View.Piece (Elt F) S16x1024 .bf16)) :
    v.read (Elt F) (v.writes (Elt F) f (⟨Rect.unit ![0, 0] ![16, 1024] inb, w⟩ :: L)) = w := by
  funext y
  refine View.read_writes_cons_unit_of_mem v f inb w L y y rfl ?_
  intro a
  match a with
  | ⟨0, _⟩ => exact (Nat.zero_add _).symm
  | ⟨1, _⟩ => exact (Nat.zero_add _).symm

variable (c : Dev nD) (i : grid0.Coords) (arg2 : Memref sig .tc .vmem S1x2064x512 .bf16) (harg2 : arg2.IsWhole) (arg3 : Memref sig .tc .vmem S1x2064x512 .bf16) (harg3 : arg3.IsWhole) (arg4 : Memref sig .tc .vmem S1x2064x512 .bf16) (harg4 : arg4.IsWhole) (arg5 : Memref sig .tc .vmem S1x2064x512 .bf16) (harg5 : arg5.IsWhole) (arg6 : Memref sig .tc .vmem S1x2064x1024 .bf16) (harg6 : arg6.IsWhole) (arg7 : Memref sig .tc .vmem S1x2064x1024 .bf16) (harg7 : arg7.IsWhole) (arg8 : Memref sig .tc .vmem S336x512 .bf16) (harg8 : arg8.IsWhole) (arg9 : Memref sig .tc .vmem S256x256 .i32) (harg9 : arg9.IsWhole) (arg10 : Memref sig .tc .vmem S1x2064x1024 .bf16) (harg10 : arg10.IsWhole) (arg11 : Memref sig .tc .vmem S1x512x1024 .f32) (harg11 : arg11.IsWhole) (arg12 : Memref sig .tc .vmem S1x512x1024 .f32) (harg12 : arg12.IsWhole) (arg13 : Memref sig .tc .vmem S16x1024 .bf16) (harg13 : arg13.IsWhole)
  (x0 : Vec F S1x2064x512 .bf16) (x1 : Vec F S1x2064x512 .bf16) (x2 : Vec F S1x2064x512 .bf16) (x3 : Vec F S1x2064x512 .bf16) (x4 : Vec F S1x2064x1024 .bf16) (x5 : Vec F S1x2064x1024 .bf16) (x6 : Vec F S336x512 .bf16) (x7 : Vec F S256x256 .i32)

/-- The rows of the meta tokens of a query or key block, and of a value block. -/
abbrev rowsK (x : Vec F S1x2064x512 .bf16) : Vec F S1x16x512 .bf16 :=
  View.ld x (Rect.unit ![0, 2048, 0] S1x16x512.size inb_S1x2064x512_S1x16x512_0_2048_0)
@[inherit_doc rowsK]
abbrev rowsV (x : Vec F S1x2064x1024 .bf16) : Vec F S1x16x1024 .bf16 :=
  View.ld x (Rect.unit ![0, 2048, 0] S1x16x1024.size inb_S1x2064x1024_S1x16x1024_0_2048_0)

/-- What the first point of a group computes for the meta tokens. -/
def metaOut : FVec F S1x16x1024 .bf16 :=
  k0_pay30 (k0_pay24 (k0_pay17 x6) (rowsK x2) (rowsK x3) (rowsK x0)) (k0_pay25 (k0_pay17 x6) (rowsK x2) (rowsK x3) (rowsK x1))
    (k0_pay27 (rowsV x4)) (k0_pay28 (k0_pay1 x7)) (rowsV x5)

/-- Before its loop the first point has written one piece of the output, the meta tokens' rows. -/
theorem H8_eq : kernelRun0_A.sl.H8_1 c arg2 harg2 arg3 harg3 arg4 harg4 arg5 harg5 arg6 harg6 arg7 harg7 arg8 harg8 arg9 harg9 x0
        x1 x2 x3 x4 x5 x6 x7
      = [⟨Rect.unit ![0, 2048, 0] S1x16x1024.size inb_S1x2064x1024_S1x16x1024_0_2048_0, metaOut x0 x1 x2 x3 x4 x5 x6 x7⟩] := by
  have hz : (![0, 0] : Fin 2 → ℕ) = fun _ => 0 := by decide
  unfold kernelRun0_A.sl.H8_1 kernelRun0_A.sl.r kernelRun0_A.sl.r_1 kernelRun0_A.sl.r_3 kernelRun0_A.sl.r_4 metaOut
  simp only [View.readAt_eq_ld, Memref.IsWhole.read_unread]
  rw [View.ld_unit_zero (S := S336x512) hz, View.ld_unit_zero (S := S256x256) hz]

/-- The same rows go into the buffer that is kept. -/
theorem HS2_eq : kernelRun0_A.sl.HS2_1 c arg2 harg2 arg3 harg3 arg4 harg4 arg5 harg5 arg6 harg6 arg7 harg7 arg8 harg8 arg9 harg9 arg10
      x0 x1 x2 x3 x4 x5 x6 x7
      = [⟨Rect.unit ![0, 0] ![16, 1024] inb_S16x1024_S16x1024_0_0, k0_pay18 (metaOut x0 x1 x2 x3 x4 x5 x6 x7)⟩] := by
  unfold kernelRun0_A.sl.HS2_1 kernelRun0_A.sl.v97
  rw [H8_eq]
  exact congrArg (fun w => [(⟨Rect.unit ![0, 0] ![16, 1024] inb_S16x1024_S16x1024_0_0, k0_pay18 w⟩ : View.Piece (Elt F) S16x1024 .bf16)])
    (View.readCov_cons_toLoadRect _ _ _ _)

/-- The loop writes no row of a meta token. -/
theorem loop_rows (v0 : Vec F S256x256 .i32) (v17 : Vec F S336x512 .bf16) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
    (G_arg10 : BufTy.Contents (Elt F) arg10.view.ty) (G_arg11 : BufTy.Contents (Elt F) arg11.view.ty) (y : S1x2064x1024.Idx) (hy : 2048 ≤ (y 1).val) (n : ℕ) :
    ∀ p ∈ (pb_k0_t1 (F := F) Variants.none c none i arg2 harg2 arg3 harg3 arg4 harg4 arg5 harg5 arg6 harg6 arg7 harg7 arg8 harg8 arg9 harg9 arg10 harg10 arg11 harg11 arg12 harg12 arg13 harg13 v0 v17 X_arg2 X_arg3 X_arg4 X_arg5 X_arg6 X_arg7 G_arg10 G_arg11 n).1, y ∉ p.1.set := by
  have off : ∀ (k : Fin k0_t1_loop.trips) (r : Fin 4), k0_off2 k (BitVec.ofNat 32 (256 * r.val)) 1 + 256 ≤ 2048 := by decide +kernel
  have out : ∀ (o : Fin 3 → ℕ), o 1 + 256 ≤ 2048 → ¬(o 1 ≤ (y 1).val ∧ (y 1).val < o 1 + S1x256x1024.size 1) := by
    intro o ho h
    have h1 := h.2
    change (y 1).val < o 1 + 256 at h1
    omega
  induction n with
  | zero =>
    intro p hp
    exact absurd hp (by rw [pb_k0_t1.eq_1]; exact List.not_mem_nil)
  | succ n ih =>
    rw [pb_k0_t1.eq_2]
    unfold pb_k0_t1Step
    by_cases h : n < k0_t1_loop.trips
    · rw [dif_pos h]
      intro p hp
      rcases List.mem_append.mp hp with hp | hp
      · unfold tripL_k0_t1 trip_k0_t1 at hp
        simp only [List.mem_cons, List.not_mem_nil, or_false] at hp
        rcases hp with rfl | rfl | rfl | rfl <;> intro hm <;> dsimp only at hm <;> rw [Rect.mem_set_unit] at hm
        · exact out _ (off ⟨n, h⟩ 3) (hm 1)
        · exact out _ (off ⟨n, h⟩ 2) (hm 1)
        · exact out _ (off ⟨n, h⟩ 1) (hm 1)
        · exact out _ (off ⟨n, h⟩ 0) (hm 1)
      · exact ih p hp
    · rw [dif_neg h]
      exact ih

/-- The first point of a group stores what it computed in the meta tokens' rows. -/
theorem out_first (hc0 : cond0_0 i) (hc1 : ¬cond0_1 i) (r : Fin 16) (d : Fin 1024) :
    out0_A_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix3 0 (metaRow r) d)
      = metaOut x0 x1 x2 x3 x4 x5 x6 x7 (ix3 0 r d) := by
  unfold out0_A_8 kernelRun0_A
  dsimp only
  rw [H8_eq, View.writes_append, View.read_writes_apply_of_forall_not_mem _ _ _ _ (loop_rows _ _ _ _ _ _ _ _ _ _ _ _ _ _ _ _ _ _ _ _ _ _ _ _ _ _ _ _ _ _ _ _ _ _ _ _ _ (by show 2048 ≤ 2048 + r.val; omega) _)]
  exact read_rows _ _ _ _ _ r d

/-- … and keeps it for the group's later points. -/
theorem kept_first (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = k0_pay18 (metaOut x0 x1 x2 x3 x4 x5 x6 x7) := by
  unfold sout0_A_2 kernelRun0_A
  dsimp only
  rw [HS2_eq]
  exact read_all _ _ _ _ _

/-- A later point of a group stores what was kept. -/
theorem out_later (hc0 : ¬cond0_0 i) (hc1 : cond0_1 i) (xs1 : Vec F S1x512x1024 .f32) (xs2 : Vec F S16x1024 .bf16) (r : Fin 16) (d : Fin 1024) :
    out0_B_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs1 xs2 (ix3 0 (metaRow r) d)
      = k0_pay20 xs2 (ix3 0 r d) := by
  have hz : (![0, 0] : Fin 2 → ℕ) = fun _ => 0 := by decide
  unfold out0_B_8 kernelRun0_B
  dsimp only
  rw [View.writes_append, View.read_writes_apply_of_forall_not_mem _ _ _ _ (loop_rows _ _ _ _ _ _ _ _ _ _ _ _ _ _ _ _ _ _ _ _ _ _ _ _ _ _ _ _ _ _ _ _ _ _ _ _ _ (by show 2048 ≤ 2048 + r.val; omega) _)]
  refine (read_rows _ _ _ _ _ r d).trans ?_
  simp only [View.readAt_eq_ld, Memref.IsWhole.read_unread]
  exact congrArg (fun w => k0_pay20 w (ix3 0 r d)) (View.ld_unit_zero (S := S16x1024) hz _ _)

end

section

variable {F : FTy → Type} [FloatOps F] (m : (ℓ : Loc nD τ sig) → Buf (Elt F) ℓ)

/-- The first grid point of a group of heads: its batch is 0. -/
def start (g : Fin 8) : Fin cfg0.N := ⟨4 * g.val, by have := g.isLt; have e : cfg0.N = 32 := N_0; omega⟩

/-- What a group computes for the meta tokens. -/
def groupOut (c : Dev nD) (g : Fin 8) : FVec F S1x16x1024 .bf16 :=
  metaOut (iblk m c 0 (start g)) (iblk m c 1 (start g)) (iblk m c 2 (start g)) (iblk m c 3 (start g)) (iblk m c 4 (start g))
    (iblk m c 5 (start g)) (iblk m c 6 (start g)) (iblk m c 7 (start g))

/-- Every point of a group ends with that value kept. -/
theorem carried (c : Dev nD) (g : Fin 8) (b : ℕ) (hb : b < 4) (hn : 4 * g.val + b < cfg0.N) :
    (outsAt0 m c (4 * g.val + b) hn).2.2 = k0_pay18 (groupOut m c g) := by
  induction b with
  | zero =>
    rw [outsAt0_A m c ⟨4 * g.val + 0, hn⟩ (by dsimp only; omega) (by dsimp only; omega)]
    dsimp only
    exact kept_first (F := F) _ _ _ _ _ _ _ _ _ _ _ _ _ _ _ _ _ _ _ _ _ _ _ _ _ _ _ _ _ _ _ _ _ _ _ _
  | succ b ih =>
    rw [outsAt0_B m c ⟨4 * g.val + (b + 1), hn⟩ (by dsimp only; omega) (by dsimp only; omega)]
    exact ih (by omega) (by omega)

/-- Every point of a group stores that value in the meta tokens' rows. -/
theorem stored (c : Dev nD) (g : Fin 8) (b : ℕ) (hb : b < 4) (hn : 4 * g.val + b < cfg0.N) (r : Fin 16) (d : Fin 1024) :
    (outsAt0 m c (4 * g.val + b) hn).1 (ix3 0 (metaRow r) d) = groupOut m c g (ix3 0 r d) := by
  cases b with
  | zero =>
    rw [outsAt0_A m c ⟨4 * g.val + 0, hn⟩ (by dsimp only; omega) (by dsimp only; omega)]
    dsimp only
    exact out_first (F := F) _ _ _ _ _ _ _ _ _ _ _ _ _ _ _ _ _ _ _ _ _ _ _ _ _ _ _ _ _ _ _ _ _ _ _ _ r d
  | succ b =>
    rw [outsAt0_B m c ⟨4 * g.val + (b + 1), hn⟩ (by dsimp only; omega) (by dsimp only; omega)]
    dsimp only
    refine (out_later (F := F) _ _ _ _ _ _ _ _ _ _ _ _ _ _ _ _ _ _ _ _ _ _ _ _ _ _ _ _ _ _ _ _ _ _ _ _ _ _ r d).trans ?_
    have e := carried m c g b (by omega) (by omega)
    show k0_pay20 (outsAt0 m c (4 * g.val + b) _).2.2 (ix3 0 r d) = _
    rw [e]
    unfold k0_pay20 k0_pay18
    pointwise

end

end Cert.KernelIdeal.Hand

end
-- ==== Proof.AttnRef.lean ====
/- The reference's array, entry by entry, over the extended reals. -/
module

public import proofs.«01_k».proof.Proof.Gen.ReferenceIdeal.Read
public import proofs.«01_k».proof.Proof.AttnMeta
public import Idealize.ShloMosaic.Lib.Pointwise

@[expose] public section

noncomputable section

namespace Cert.ReferenceIdeal.Hand

open Cert.ReferenceIdeal Cert.ReferenceIdeal.Gen Cert.ReferenceIdeal.Read Idealize.ShloMosaic Idealize.ShloMosaic.TcCoe Idealize.SL.Sem
open Cert.KernelIdeal.Hand (running mixed scale)

/-- A left fold that adds one term per index, from zero, is the sum. -/
theorem foldl_add_sum {n : Nat} (t : Fin n → EReal) (step : EReal → Fin n → EReal) (h : ∀ a i, step a i = a + t i) :
    (List.finRange n).foldl step 0 = ∑ i, t i := by
  have e : step = fun a i => a + t i := by
    funext a i
    exact h a i
  rw [e, ← List.foldl_map (f := t) (g := fun a b => a + b), ← List.sum_eq_foldl, ← List.ofFn_eq_map, List.sum_ofFn]

/-- The window of a sum over sixteen rows. -/
abbrev W : Shape := ⟨3, ![1, 16, 1]⟩

theorem numel_W : W.numel = 16 := by decide

theorem symm_W (n : Fin W.numel) : ∀ a : Fin 3, (W.rowMajor.symm n a).val = if a = 1 then n.val else 0 := by
  revert n
  decide +kernel

/-- The running sum of the rows of each head. -/
theorem cumsum_entry (x : FVec Ideal S8x16x512 .f32) (init : FVec Ideal S_ .f32) (h0 : init (Shape.Idx.first h_S_) = (0 : EReal))
    (g : Fin 8) (i : Fin 16) (d : Fin 512) :
    Host.reduceWindowAdd ![1, 16, 1] ![1, 1, 1] ![0, 15, 0] ![0, 0, 0] x init
      reduceWindows_S8x16x512_S8x16x512_w1s1p0_0_w16s1p15_0_w1s1p0_0 h_S_ (ix3 g i d)
      = running (fun r => x (ix3 g r d)) i := by
  have hg := g.isLt
  have hi := i.isLt
  have hd := d.isLt
  show Host.reduceWindow (fun a b : EReal => a + b) ![1, 16, 1] ![1, 1, 1] ![0, 15, 0] ![0, 0, 0] x _
    reduceWindows_S8x16x512_S8x16x512_w1s1p0_0_w16s1p15_0_w1s1p0_0 _ (ix3 g i d) = _
  unfold Host.reduceWindow
  rw [h0]
  refine (foldl_add_sum (fun n : Fin W.numel =>
    if 15 ≤ i.val + n.val then x (ix3 g (⟨(i.val + n.val + 1) % 16, Nat.mod_lt _ (by omega)⟩ : Fin 16) d) else 0) _ fun a n => ?_).trans ?_
  · have hn : n.val < 16 := lt_of_lt_of_eq n.isLt numel_W
    have w0 : (W.rowMajor.symm n 0).val = 0 := symm_W n 0
    have w1 : (W.rowMajor.symm n 1).val = n.val := symm_W n 1
    have w2 : (W.rowMajor.symm n 2).val = 0 := symm_W n 2
    dsimp only
    refine congrArg (a + ·) ?_
    split
    · next hin =>
      have h1 := hin 1
      change 15 ≤ i.val * 1 + (W.rowMajor.symm n 1).val ∧ i.val * 1 + (W.rowMajor.symm n 1).val - 15 < 16 at h1
      rw [w1] at h1
      rw [if_pos (by omega)]
      refine congrArg x (funext fun b => Fin.ext ?_)
      match b with
      | ⟨0, _⟩ =>
        show g.val * 1 + (W.rowMajor.symm n 0).val - 0 = g.val
        rw [w0]
        omega
      | ⟨1, _⟩ =>
        show i.val * 1 + (W.rowMajor.symm n 1).val - 15 = (i.val + n.val + 1) % 16
        rw [w1]
        omega
      | ⟨2, _⟩ =>
        show d.val * 1 + (W.rowMajor.symm n 2).val - 0 = d.val
        rw [w2]
        omega
    · next hin =>
      rw [if_neg fun hle => hin fun b => by
        match b with
        | ⟨0, _⟩ =>
          show 0 ≤ g.val * 1 + (W.rowMajor.symm n 0).val ∧ g.val * 1 + (W.rowMajor.symm n 0).val - 0 < 8
          rw [w0]
          omega
        | ⟨1, _⟩ =>
          show 15 ≤ i.val * 1 + (W.rowMajor.symm n 1).val ∧ i.val * 1 + (W.rowMajor.symm n 1).val - 15 < 16
          rw [w1]
          omega
        | ⟨2, _⟩ =>
          show 0 ≤ d.val * 1 + (W.rowMajor.symm n 2).val ∧ d.val * 1 + (W.rowMajor.symm n 2).val - 0 < 512
          rw [w2]
          omega]
  · unfold running
    refine Fintype.sum_equiv ((finCongr numel_W).trans (Equiv.addRight (i + 1))) _ _ fun n => ?_
    have hn : n.val < 16 := lt_of_lt_of_eq n.isLt numel_W
    have e : ((finCongr numel_W).trans (Equiv.addRight (i + 1))) n
        = (⟨(i.val + n.val + 1) % 16, Nat.mod_lt _ (by omega)⟩ : Fin 16) := by
      refine Fin.ext ?_
      show (n.val + (i.val + 1) % 16) % 16 = (i.val + n.val + 1) % 16
      omega
    rw [e]
    by_cases h : 15 ≤ i.val + n.val
    · rw [if_pos h, if_pos (show (i.val + n.val + 1) % 16 ≤ i.val by omega)]
    · rw [if_neg h, if_neg (show ¬ (i.val + n.val + 1) % 16 ≤ i.val by omega)]

section

variable (x1 x3 x5 : Vec Ideal S16x4096 .f32) (x7 x9 : Vec Ideal S16x8192 .f32) (x10 : Vec Ideal S4096 .f32) (x11 : Vec Ideal S8192 .f32)

/-- A column of a head among the columns of all heads. -/
abbrev keyCol (g : Fin 8) (d : Fin 512) : Fin 4096 := ⟨g.val * 512 + d.val, by omega⟩
@[inherit_doc keyCol] abbrev valueCol (g : Fin 8) (d : Fin 1024) : Fin 8192 := ⟨g.val * 1024 + d.val, by omega⟩

/-- The decay of a token, a natural logarithm. -/
def logDecay (i : Fin 16) (n : Fin 4096) : EReal :=
  Ideal.div (min (x5 (ix2 i n) + x10 (ix1 n) : EReal) 0
    - Ideal.log1p (Ideal.exp (-FloatOps.absf (F := Ideal) (φ := .f32) (x5 (ix2 i n) + x10 (ix1 n) : EReal)))) (Ideal.ofBits .f32 0x41800000#32)

theorem v21_entry (g : Fin 8) (i : Fin 16) (d : Fin 512) :
    val_main_v21 (F := Ideal) x5 x10 (ix3 g i d) = logDecay x5 x10 i (keyCol g d) := by
  unfold val_main_v21 val_main_v17 val_main_v11 val_main_v9 val_main_v10 val_main_v8 val_main_v7 val_main_v6
    val_main_v5 val_main_v4 val_main_v3 val_main_v2 val_main_v1 val_main_v0 val_main_cst_0 val_main_cst
  pointwise
  rfl

theorem v22_entry (g : Fin 8) (i : Fin 16) (d : Fin 512) :
    val_main_v22 (F := Ideal) x5 x10 (ix3 g i d) = running (fun r => logDecay x5 x10 r (keyCol g d)) i := by
  unfold val_main_v22
  refine (cumsum_entry _ _ ?_ g i d).trans ?_
  · unfold val_main_call0_call0_v0 val_main_call0_call0_cst
    show Ideal.ofBits .f32 0#32 = 0
    exact Ideal.ofBits_zero .f32
  · exact congrArg (fun f => running f i) (funext fun r => v21_entry x5 x10 g r d)

/-- What head `g` of the reference reads for the tokens. -/
abbrev outRef (g : Fin 8) : Fin 16 → Fin 1024 → EReal :=
  mixed (fun i x => x1 (ix2 i (keyCol g x)) * Ideal.ofBits .f32 0x3D3504F3#32 * Ideal.exp (running (fun r => logDecay x5 x10 r (keyCol g x)) i))
    (fun i x => x3 (ix2 i (keyCol g x)) * Ideal.exp (-running (fun r => logDecay x5 x10 r (keyCol g x)) i))
    (fun i d => x7 (ix2 i (valueCol g d)))

theorem causal (i s : Fin 16) (a : EReal) :
    Scalar.select (Scalar.select (IntOp.cmpi .sge (IntOp.addi (BitVec.ofNat 32 i.val) 0#32) (BitVec.ofNat 32 s.val)) 1#1 0#1) a (0 : EReal)
      = if s.val ≤ i.val then a else 0 := by
  have h : ∀ i s : Fin 16, Scalar.select (IntOp.cmpi .sge (IntOp.addi (BitVec.ofNat 32 i.val) 0#32) (BitVec.ofNat 32 s.val)) 1#1 0#1
      = if s.val ≤ i.val then 1#1 else 0#1 := by decide +kernel
  rw [h]
  split
  · rfl
  · rfl

theorem v33_entry (g : Fin 8) (i : Fin 16) (d : Fin 1024) :
    val_main_v33 (F := Ideal) x1 x3 x5 x7 x10 (ix3 i g d) = outRef x1 x3 x5 x7 x10 g i d := by
  simp only [val_main_v33, val_main_v32, val_main_v31, val_main_v30, val_main_v29, val_main_v28, val_main_v20, val_main_v16,
    val_main_v27, val_main_v24, val_main_v19, val_main_v18, val_main_v15, val_main_v14, val_main_v13, val_main_v12,
    val_main_cst_1, val_main_call1_v5, val_main_call1_v4, val_main_call1_v3, val_main_call1_v2, val_main_call1_v1,
    val_main_call1_v0, val_main_call1_c, val_main_call1_c_0, val_main_call2_v2, val_main_call2_v1, val_main_call2_v0,
    val_main_c, val_main_cst_2, val_main_v23, val_main_v26, val_main_v25]
  unfold outRef mixed
  simp only [← v22_entry]
  generalize val_main_v22 (F := Ideal) x5 x10 = b
  pointwise
  have z : (id (constant S_ FTy.f32 0#32) ix0 : Ideal .f32) = (0 : EReal) := Ideal.ofBits_zero .f32
  simp only [z, causal]

/-- One entry of the reference's result: a head's output times its norm, gain and gate. -/
theorem result_entry (b : Fin 4) (i : Fin 16) (n : Fin 8192) :
    val_main_v52 (F := Ideal) x1 x3 x5 x7 x9 x10 x11 (ix3 b i n)
      = (let o := outRef x1 x3 x5 x7 x10 ⟨n.val / 1024, by omega⟩
        o i ⟨n.val % 1024, by omega⟩ * scale (o i) * x11 (ix1 n)
          * (x9 (ix2 i n) * Ideal.div 1 (1 + Ideal.exp (-(x9 (ix2 i n) : EReal))))) := by
  unfold scale
  simp only [← v33_entry]
  unfold val_main_v52 val_main_v51 val_main_v50 val_main_v49 val_main_v48 val_main_call3_v5 val_main_call3_v4
    val_main_call3_v3 val_main_call3_v2 val_main_call3_v1 val_main_call3_v0 val_main_call3_cst val_main_call3_cst_0
    val_main_v47 val_main_v46 val_main_v45 val_main_v44 val_main_v43 val_main_v42 val_main_v41 val_main_v40
    val_main_v39 val_main_v38 val_main_v37 val_main_v36 val_main_v35 val_main_v34 val_main_cst_3 val_main_cst_4
    val_main_cst_5
  generalize val_main_v33 (F := Ideal) x1 x3 x5 x7 x10 = b
  pointwise

end

end Cert.ReferenceIdeal.Hand

end
-- ==== Proof.Sigmoid.lean ====
/- The two spellings of the logistic function, the kernel's through `tanh` and the reference's through `exp`, are one function
   on the extended reals. -/
module

public import Idealize.ShloMosaic.Lib.Pointwise
public import Idealize.ShloMosaic.Lib.IdealHost

@[expose] public section

noncomputable section

namespace Cert.Math

open Idealize.ShloMosaic

/-- The word of `0.5` at f32 reads as the real number one half. -/
theorem half_word : Ideal.ofBits .f32 0x3F000000#32 = ((1 / 2 : ℝ) : EReal) := by
  simp [Ideal.ofBits, Ideal.ieee, -EReal.coe_mul]; norm_num

/-- `1/2 + 1/2 · tanh (x/2)` is `1 / (1 + exp (-x))` for every real `x`. -/
theorem half_tanh_real (x : ℝ) : 1 / 2 + 1 / 2 * Real.tanh (1 / 2 * x) = (1 + Real.exp (-x))⁻¹ := by
  have e : Real.exp (-x) = (Real.exp (1 / 2 * x))⁻¹ ^ 2 := by
    rw [← Real.exp_neg, ← Real.exp_nat_mul]; congr 1; push_cast; ring
  rw [Real.tanh_eq_sinh_div_cosh, Real.sinh_eq, Real.cosh_eq, e, Real.exp_neg]
  have h1 := Real.exp_pos (1 / 2 * x)
  generalize Real.exp (1 / 2 * x) = u at h1 ⊢
  have h2 : u ^ 2 + 1 ≠ 0 := by positivity
  field_simp
  ring

/-- The kernel's spelling of the logistic function, at every extended real. -/
theorem half_tanh (x : EReal) :
    Ideal.ofBits .f32 0x3F000000#32 + Ideal.ofBits .f32 0x3F000000#32 * Ideal.tanh (Ideal.ofBits .f32 0x3F000000#32 * x)
      = Ideal.logistic x := by
  rw [half_word]
  have hp : (0 : ℝ) < 1 / 2 := by norm_num
  induction x with
  | bot =>
    rw [EReal.coe_mul_bot_of_pos hp, Ideal.tanh_bot, Ideal.logistic_bot]
    rw [show (-1 : EReal) = ((-1 : ℝ) : EReal) from by simp, ← EReal.coe_mul, ← EReal.coe_add]
    norm_num
  | top =>
    rw [EReal.coe_mul_top_of_pos hp, Ideal.tanh_top, Ideal.logistic_top]
    rw [show (1 : EReal) = ((1 : ℝ) : EReal) from by simp, ← EReal.coe_mul, ← EReal.coe_add]
    norm_num
  | coe r =>
    rw [← EReal.coe_mul, Ideal.tanh_coe, ← EReal.coe_mul, ← EReal.coe_add, Ideal.logistic_coe, half_tanh_real]

end Cert.Math

end
-- ==== Proof.AttnMath.lean ====
/- The gates of the attention over the extended reals: the call's decays are logarithms to base two, the reference's are
   natural ones, and the two give the same factors when the gates are finite. -/
module

public import proofs.«01_k».proof.Proof.AttnMeta
public import proofs.«01_k».proof.Proof.Sigmoid

@[expose] public section

noncomputable section

namespace Cert.Math

open Idealize.ShloMosaic
open Cert.KernelIdeal.Hand (running)

theorem two_word : Ideal.ofBits .f32 0x40000000#32 = ((2 : ℝ) : EReal) := by
  simp [Ideal.ofBits, Ideal.ieee, -EReal.coe_mul]; norm_num

theorem sixteen_word : Ideal.ofBits .f32 0x41800000#32 = ((16 : ℝ) : EReal) := by
  simp [Ideal.ofBits, Ideal.ieee, -EReal.coe_mul]; norm_num

/-- The logarithm of the logistic function of a real is a real. -/
theorem log_logistic_real (u : ℝ) :
    ∃ l : ℝ, min (u : EReal) 0 - Ideal.log (1 + Ideal.exp (-FloatOps.absf (F := Ideal) (φ := .f32) (u : EReal))) = (l : EReal) := by
  refine ⟨min u 0 - Real.log (1 + Real.exp (-max u (-u))), ?_⟩
  have a : FloatOps.absf (F := Ideal) (φ := .f32) (u : EReal) = ((max u (-u) : ℝ) : EReal) := by
    show max (u : EReal) (-(u : EReal)) = _
    rw [← EReal.coe_neg, ← EReal.coe_strictMono.monotone.map_max]
  have p : ¬(1 + Real.exp (-max u (-u)) ≤ 0) := by
    have := Real.exp_pos (-max u (-u))
    linarith
  rw [a, ← EReal.coe_neg, Ideal.exp_coe, ← EReal.coe_one, ← EReal.coe_add, Ideal.log_coe, if_neg p, ← EReal.coe_zero,
    ← EReal.coe_strictMono.monotone.map_min, ← EReal.coe_sub]

/-- The decay of a finite gate is a real, and the reference's is that real times the logarithm of two. -/
theorem decay_real (u : ℝ) : ∃ d : ℝ,
    Ideal.div (min (u : EReal) 0 - Ideal.log (1 + Ideal.exp (-FloatOps.absf (F := Ideal) (φ := .f32) (u : EReal))))
        (Ideal.ofBits .f32 0x41800000#32 * Ideal.log (Ideal.ofBits .f32 0x40000000#32)) = (d : EReal)
      ∧ Ideal.div (min (u : EReal) 0 - Ideal.log1p (Ideal.exp (-FloatOps.absf (F := Ideal) (φ := .f32) (u : EReal))))
        (Ideal.ofBits .f32 0x41800000#32) = ((d * Real.log 2 : ℝ) : EReal) := by
  obtain ⟨l, hl⟩ := log_logistic_real u
  have h2 : Real.log 2 ≠ 0 := (Real.log_pos (by norm_num)).ne'
  unfold Ideal.log1p
  rw [hl, two_word, sixteen_word, Ideal.log_coe, if_neg (by norm_num), ← EReal.coe_mul, Ideal.div_coe (by positivity),
    Ideal.div_coe (by norm_num), ← EReal.coe_mul, ← EReal.coe_mul]
  refine ⟨_, rfl, ?_⟩
  congr 1
  field_simp

/-- A running sum of reals is a real. -/
theorem running_real (d : Fin 16 → ℝ) (i : Fin 16) :
    running (fun r => (d r : EReal)) i = ((∑ s : Fin 16, if s.val ≤ i.val then d s else 0 : ℝ) : EReal) := by
  unfold running
  have e : ∀ (S : Finset (Fin 16)) (f : Fin 16 → ℝ), ((∑ s ∈ S, f s : ℝ) : EReal) = ∑ s ∈ S, (f s : EReal) := by
    intro S f
    induction S using Finset.cons_induction with
    | empty => simp
    | cons a S h ih => rw [Finset.sum_cons, Finset.sum_cons, EReal.coe_add, ih]
  rw [e]
  refine Finset.sum_congr rfl fun s _ => ?_
  split <;> simp

/-- The factors of the two sides agree: a power of two against an exponential. -/
theorem factor (d : Fin 16 → ℝ) (i : Fin 16) :
    Ideal.exp2 (running (fun r => (d r : EReal)) i) = Ideal.exp (running (fun r => ((d r * Real.log 2 : ℝ) : EReal)) i)
      ∧ Ideal.exp2 (0 - running (fun r => (d r : EReal)) i) = Ideal.exp (-running (fun r => ((d r * Real.log 2 : ℝ) : EReal)) i) := by
  have s : (∑ s : Fin 16, if s.val ≤ i.val then d s * Real.log 2 else 0)
      = (∑ s : Fin 16, if s.val ≤ i.val then d s else 0) * Real.log 2 := by
    rw [Finset.sum_mul]
    refine Finset.sum_congr rfl fun s _ => ?_
    split <;> simp
  have p : ∀ x : ℝ, Ideal.exp2 (x : EReal) = Ideal.exp ((x * Real.log 2 : ℝ) : EReal) := by
    intro x
    rw [Ideal.exp2_coe, Ideal.exp_coe]
    congr 1
    show (2 : ℝ) ^ x = _
    rw [Real.rpow_def_of_pos (by norm_num), mul_comm]
  rw [running_real, running_real, s]
  generalize (∑ s : Fin 16, if s.val ≤ i.val then d s else 0) = x
  refine ⟨p x, ?_⟩
  rw [zero_sub, ← EReal.coe_neg, ← EReal.coe_neg, p, neg_mul]

end Cert.Math

end
-- ==== Proof.AttnMetaValue.lean ====
/- The array that the attention's call leaves, at the rows of the meta tokens, from the arguments of the program. -/
module

public import proofs.«01_k».proof.Proof.AttnMetaRun
public import proofs.«01_k».proof.Proof.AttnRef
public import proofs.«01_k».proof.Proof.AttnMath
public import Idealize.ShloMosaic.Lib.Pipeline.ValueKit.Tiles

@[expose] public section

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.ReferenceIdeal.Hand (keyCol valueCol)

/-- Where each window's block lies at grid point `t`: batch `t % 4`, the group of heads `t / 4`. -/
theorem places : ∀ t : Fin cfg0.N, win0_0.index t = ![t.val % 4, 0, t.val / 4] ∧ win0_1.index t = ![t.val % 4, 0, t.val / 4]
    ∧ win0_2.index t = ![t.val % 4, 0, t.val / 4] ∧ win0_3.index t = ![t.val % 4, 0, t.val / 4]
    ∧ win0_4.index t = ![t.val % 4, 0, t.val / 4] ∧ win0_5.index t = ![t.val % 4, 0, t.val / 4]
    ∧ win0_6.index t = ![0, 0] ∧ win0_7.index t = ![0, 0] ∧ win0_8.index t = ![t.val % 4, 0, t.val / 4] :=
  (by decide +kernel : ∀ t : Fin grid0.N, _)

/-- The group of heads of a grid point, and its batch. -/
def group (t : Fin cfg0.N) : Fin 8 := ⟨t.val / 4, by have h := t.isLt; have e : cfg0.N = 32 := N_0; omega⟩
@[inherit_doc group] def batch (t : Fin cfg0.N) : Fin 4 := ⟨t.val % 4, by omega⟩

/-- An element of a meta token's row in a query or key block, as an element of the array. -/
theorem key_place (p : S4x2064x4096.Idx) (o : Fin 3 → ℕ) (t : Fin cfg0.N) (r : Fin 16) (k : Fin 512)
    (ho : o = ![t.val % 4, 0, t.val / 4])
    (hp : ∀ a, (p a).val = o a * (![1, 2064, 512] : Fin 3 → ℕ) a + 1 * ((ix3 (0 : Fin 1) (metaRow r) k : S1x2064x512.Idx) a).val) :
    p = ix3 (batch t) (metaRow r) (keyCol (group t) k) := by
  subst ho
  funext a
  apply Fin.ext
  rw [hp a]
  match a with
  | ⟨0, _⟩ => show t.val % 4 * 1 + 1 * 0 = t.val % 4; omega
  | ⟨1, _⟩ => show 0 * 2064 + 1 * (2048 + r.val) = 2048 + r.val; omega
  | ⟨2, _⟩ => show t.val / 4 * 512 + 1 * k.val = t.val / 4 * 512 + k.val; omega

/-- An element of a meta token's row in a value, gate or output block, as an element of the array. -/
theorem value_place (p : S4x2064x8192.Idx) (o : Fin 3 → ℕ) (t : Fin cfg0.N) (r : Fin 16) (k : Fin 1024)
    (ho : o = ![t.val % 4, 0, t.val / 4])
    (hp : ∀ a, (p a).val = o a * (![1, 2064, 1024] : Fin 3 → ℕ) a + 1 * ((ix3 (0 : Fin 1) (metaRow r) k : S1x2064x1024.Idx) a).val) :
    p = ix3 (batch t) (metaRow r) (valueCol (group t) k) := by
  subst ho
  funext a
  apply Fin.ext
  rw [hp a]
  match a with
  | ⟨0, _⟩ => show t.val % 4 * 1 + 1 * 0 = t.val % 4; omega
  | ⟨1, _⟩ => show 0 * 2064 + 1 * (2048 + r.val) = 2048 + r.val; omega
  | ⟨2, _⟩ => show t.val / 4 * 1024 + 1 * k.val = t.val / 4 * 1024 + k.val; omega

variable (m : (ℓ : Loc nD τ sig) → Buf (Elt Ideal) ℓ) (ρ : Dev nD → PrngReg)

theorem rowsK_entry (x : Vec Ideal S1x2064x512 .bf16) (r : Fin 16) (k : Fin 512) : rowsK x (ix3 0 r k) = x (ix3 0 (metaRow r) k) :=
  View.ld_unit_apply_of x _ _ _ _ _ fun a => by
    match a with
    | ⟨0, _⟩ => rfl
    | ⟨1, _⟩ => rfl
    | ⟨2, _⟩ => exact (Nat.zero_add _).symm

theorem rowsV_entry (x : Vec Ideal S1x2064x1024 .bf16) (r : Fin 16) (k : Fin 1024) : rowsV x (ix3 0 r k) = x (ix3 0 (metaRow r) k) :=
  View.ld_unit_apply_of x _ _ _ _ _ fun a => by
    match a with
    | ⟨0, _⟩ => rfl
    | ⟨1, _⟩ => rfl
    | ⟨2, _⟩ => exact (Nat.zero_add _).symm

theorem q_block (c : Dev nD) (t : Fin cfg0.N) (r : Fin 16) (k : Fin 512) :
    rowsK (iblk m c 0 t) (ix3 0 r k) = argQ m c (ix2 r (keyCol (group t) k)) * Ideal.ofBits FTy.f32 0x3D3504F3#32 :=
  (rowsK_entry _ r k).trans ((congrArg (V m c main_v5) (key_place _ _ t r k (places t).1 fun _ => rfl)).trans (q_entry m c _ _ _))

theorem k_block (c : Dev nD) (t : Fin cfg0.N) (r : Fin 16) (k : Fin 512) :
    rowsK (iblk m c 1 t) (ix3 0 r k) = argK m c (ix2 r (keyCol (group t) k)) :=
  (rowsK_entry _ r k).trans ((congrArg (V m c main_v47) (key_place _ _ t r k (places t).2.1 fun _ => rfl)).trans (k_entry m c _ _ _))

theorem hi_block (c : Dev nD) (t : Fin cfg0.N) (r : Fin 16) (k : Fin 512) :
    rowsK (iblk m c 2 t) (ix3 0 r k) = decay m c r (keyCol (group t) k) :=
  (rowsK_entry _ r k).trans ((congrArg (V m c main_v25) (key_place _ _ t r k (places t).2.2.1 fun _ => rfl)).trans (hi_entry m c _ _ _))

theorem lo_block (c : Dev nD) (t : Fin cfg0.N) (r : Fin 16) (k : Fin 512) :
    rowsK (iblk m c 3 t) (ix3 0 r k) = decay m c r (keyCol (group t) k) - decay m c r (keyCol (group t) k) :=
  (rowsK_entry _ r k).trans ((congrArg (V m c main_v28) (key_place _ _ t r k (places t).2.2.2.1 fun _ => rfl)).trans (lo_entry m c _ _ _))

theorem v_block (c : Dev nD) (t : Fin cfg0.N) (r : Fin 16) (k : Fin 1024) :
    rowsV (iblk m c 4 t) (ix3 0 r k) = argV m c (ix2 r (valueCol (group t) k)) :=
  (rowsV_entry _ r k).trans ((congrArg (V m c main_v51) (value_place _ _ t r k (places t).2.2.2.2.1 fun _ => rfl)).trans (v_entry m c _ _ _))

theorem z_block (c : Dev nD) (t : Fin cfg0.N) (r : Fin 16) (k : Fin 1024) :
    rowsV (iblk m c 5 t) (ix3 0 r k) = argZ m c (ix2 r (valueCol (group t) k)) * Ideal.logistic (argZ m c (ix2 r (valueCol (group t) k)))
      * argN m c (ix1 (valueCol (group t) k)) := by
  refine (rowsV_entry _ r k).trans ((congrArg (V m c main_v43) (value_place _ _ t r k (places t).2.2.2.2.2.1 fun _ => rfl)).trans
    ((z_entry m c _ _ _).trans ?_))
  rw [Cert.Math.half_tanh]

theorem sums_block (c : Dev nD) (t : Fin cfg0.N) : SumsMeta (iblk m c 6 t) := by
  intro i x
  refine Eq.trans ?_ (sums_entry m c i x)
  show V m c main_v139 _ = V m c main_v139 _
  congr 1
  funext a
  apply Fin.ext
  have p := (places t).2.2.2.2.2.2.1
  match a with
  | ⟨0, _⟩ => show win0_6.index t 0 * 336 + 1 * i.val = i.val; rw [p]; show 0 * 336 + 1 * i.val = _; omega
  | ⟨1, _⟩ => show win0_6.index t 1 * 512 + 1 * x.val = x.val; rw [p]; show 0 * 512 + 1 * x.val = _; omega

theorem levels_cast (x : Vec Ideal S256x256 .i32) (h : LevelsMeta x) : LevelsMeta (k0_pay1 (F := Ideal) x) := by
  intro i y
  rw [← h i y]
  unfold k0_pay1
  pointwise

theorem levels_block (c : Dev nD) (t : Fin cfg0.N) : LevelsMeta (k0_pay1 (F := Ideal) (iblk m c 7 t)) := by
  have e : (iblk m c 7 t : Vec Ideal S256x256 .i32) = V m c main_v138 := by
    refine funext fun (y : S256x256.Idx) => ?_
    show V m c main_v138 _ = V m c main_v138 _
    congr 1
    funext a
    apply Fin.ext
    have p := (places t).2.2.2.2.2.2.2.1
    match a with
    | ⟨0, _⟩ => show win0_7.index t 0 * 256 + 1 * (y 0).val = (y 0).val; rw [p]; show 0 * 256 + 1 * (y 0).val = _; omega
    | ⟨1, _⟩ => show win0_7.index t 1 * 256 + 1 * (y 1).val = (y 1).val; rw [p]; show 0 * 256 + 1 * (y 1).val = _; omega
  rw [e]
  exact levels_cast _ (levels_entry m c)

/-- What a group of heads computes for the meta tokens, from the arguments. -/
def outKernel (c : Dev nD) (g : Fin 8) : Fin 16 → Fin 1024 → EReal :=
  mixed (fun i x => argQ m c (ix2 i (keyCol g x)) * Ideal.ofBits FTy.f32 0x3D3504F3#32
      * Ideal.exp2 (running (fun r => decay m c r (keyCol g x)) i))
    (fun i x => argK m c (ix2 i (keyCol g x)) * Ideal.exp2 (0 - running (fun r => decay m c r (keyCol g x)) i))
    (fun i d => argV m c (ix2 i (valueCol g d)))

/-- The first point of a group computes, for the meta tokens, a head's output times its norm, gate and gain. -/
theorem group_entry (c : Dev nD) (hd : ∀ i n, decay m c i n - decay m c i n = 0) (g : Fin 8) (r : Fin 16) (d : Fin 1024) :
    groupOut m c g (ix3 0 r d) = outKernel m c g r d * scale (outKernel m c g r)
      * (argZ m c (ix2 r (valueCol g d)) * Ideal.logistic (argZ m c (ix2 r (valueCol g d))) * argN m c (ix1 (valueCol g d))) := by
  have hg : group (start g) = g := Fin.ext (by show 4 * g.val / 4 = g.val; omega)
  have e := meta_entry (iblk m c 6 (start g)) (rowsK (iblk m c 2 (start g))) (rowsK (iblk m c 3 (start g))) (rowsK (iblk m c 0 (start g)))
    (rowsK (iblk m c 1 (start g))) (rowsV (iblk m c 4 (start g))) (rowsV (iblk m c 5 (start g))) (k0_pay1 (iblk m c 7 (start g)))
    (sums_block m c _) (levels_block m c _) (fun j => ?_) r d
  · simp only [q_block, k_block, hi_block, v_block, z_block, hg] at e
    exact e
  · obtain ⟨a, b, x, rfl⟩ : ∃ (a : Fin 1) (b : Fin 16) (x : Fin 512), j = ix3 a b x := ⟨j 0, j 1, j 2, by
      funext a
      match a with
      | ⟨0, _⟩ => rfl
      | ⟨1, _⟩ => rfl
      | ⟨2, _⟩ => rfl⟩
    obtain rfl : a = 0 := Subsingleton.elim _ _
    exact (lo_block m c _ _ _).trans (hd _ _)

/-- What grid point `t` writes back, at a meta token's row. -/
theorem flushed_entry (c : Dev nD) (t : Fin cfg0.N) (r : Fin 16) (d : Fin 1024) :
    ((dats m 0 c).flushed 8 t : S1x2064x1024.Idx → EReal) (ix3 0 (metaRow r) d) = groupOut m c (group t) (ix3 0 r d) := by
  show (dats m 0 c).after 8 t (ix3 0 (metaRow r) d) = _
  rw [after0_8]
  have hN : t.val < 32 := lt_of_lt_of_eq t.isLt N_0
  have e : 4 * (group t).val + t.val % 4 = t.val := by show 4 * (t.val / 4) + t.val % 4 = t.val; omega
  have s := stored m c (group t) (t.val % 4) (by omega) (by rw [e]; exact t.isLt) r d
  simp only [e] at s
  exact s

/-- The index map sends distinct grid points to distinct blocks, so no two points write one element. -/
theorem idx_inj : ∀ t t' : Fin cfg0.N, win0_8.index t = win0_8.index t' → t = t' :=
  (by decide +kernel : ∀ t t' : Fin grid0.N, win0_8.index t = win0_8.index t' → t = t')

theorem disjoint (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun h => hne (idx_inj t t' h)

/-- The array after the run, at a meta token's row. -/
theorem array_entry (c : Dev nD) (b : Fin 4) (r : Fin 16) (g : Fin 8) (d : Fin 1024) :
    ((dats m 0 c).arrAt 8 cfg0.N : S4x2064x8192.Idx → EReal) (ix3 b (metaRow r) (valueCol g d)) = groupOut m c g (ix3 0 r d) := by
  have hN : 4 * g.val + b.val < cfg0.N := by have e : cfg0.N = 32 := N_0; omega
  have hg : group ⟨4 * g.val + b.val, hN⟩ = g := Fin.ext (by show (4 * g.val + b.val) / 4 = g.val; omega)
  have hb : batch ⟨4 * g.val + b.val, hN⟩ = b := Fin.ext (by show (4 * g.val + b.val) % 4 = b.val; omega)
  generalize (⟨4 * g.val + b.val, hN⟩ : Fin cfg0.N) = t at hg hb
  have e := congrFun ((dats m 0 c).read_blk_arrAt_eq_flushed 8 disjoint cfg0.N t t.isLt (flush0_8 t)) (ix3 0 (metaRow r) d : S1x2064x1024.Idx)
  rw [← hg, ← flushed_entry m c t r d]
  refine Eq.trans ?_ e
  refine congrArg ((dats m 0 c).arrAt 8 cfg0.N : S4x2064x8192.Idx → EReal) ?_
  rw [← hb]
  exact (value_place _ _ t r d (places t).2.2.2.2.2.2.2.2 fun _ => rfl).symm

/-- The result after the run: the meta tokens' rows of that array. -/
theorem result_array (c : Dev nD) (b : Fin 4) (r : Fin 16) (n : Fin 8192) :
    (Pipeline.afterTail₀ cfgs (dats m) 0 (V0 m) [hostOps1] c main_v141 : S4x16x8192.Idx → EReal) (ix3 b r n)
      = ((dats m 0 c).arrAt 8 cfg0.N : S4x2064x8192.Idx → EReal) (ix3 b (metaRow r) n) := by
  unfold Pipeline.afterTail₀
  simp only [hostOps1, List.flatten_cons, List.flatten_nil, List.append_nil, List.cons_append, List.nil_append]
  after_results_simp
  have e : Pipeline.withArrays (cfgs 0).spec c (V0 m c) (fun w => (dats m 0 c).arrAt w (cfgs 0).N)
      (Proc.tc.devRef main_v140) = (dats m 0 c).arrAt 8 cfg0.N :=
    Pipeline.withArrays_arr spec0 (by decide) c (V0 m c) (fun w => (dats m 0 c).arrAt w cfg0.N) 8
  rw [e]
  generalize (dats m 0 c).arrAt 8 cfg0.N = a
  pointwise

end Cert.KernelIdeal.Hand

end
-- ==== Proof.AttnEqual.lean ====
/- The meta tokens' rows: the kernel's array is the reference's, where the gates are real numbers. -/
module

public import proofs.«01_k».proof.Proof.AttnMetaValue
public import proofs.«01_k».proof.Proof.Gen.Pre_finite
public import Idealize.ShloMosaic.Lib.ReduceAll

@[expose] public section

noncomputable section

namespace Cert.KernelIdeal.Hand

open Cert.KernelIdeal Cert.KernelIdeal.Gen Idealize.ShloMosaic Idealize.ShloMosaic.TcCoe Idealize.SL.Sem
open Cert.ReferenceIdeal.Hand (keyCol valueCol logDecay outRef)

variable (m : (ℓ : Loc nD τ sig) → Buf (Elt Ideal) ℓ)

/-- With real gates the decays are real, and the reference's are the same numbers times the logarithm of two. -/
theorem decays (c : Dev nD) (fin : ∀ i n, ∃ u : ℝ, gate m c i n = (u : EReal)) :
    ∃ d : Fin 16 → Fin 4096 → ℝ, (∀ i n, decay m c i n = (d i n : EReal))
      ∧ ∀ i n, logDecay (argG m c) (argB m c) i n = ((d i n * Real.log 2 : ℝ) : EReal) := by
  have h : ∀ i n, ∃ d : ℝ, decay m c i n = (d : EReal)
      ∧ logDecay (argG m c) (argB m c) i n = ((d * Real.log 2 : ℝ) : EReal) := by
    intro i n
    obtain ⟨u, hu⟩ := fin i n
    obtain ⟨d, h1, h2⟩ := Cert.Math.decay_real u
    refine ⟨d, ?_, ?_⟩
    · unfold decay
      rw [hu]
      exact h1
    · unfold logDecay
      unfold gate at hu
      rw [hu]
      exact h2
  choose d hd using h
  exact ⟨d, fun i n => (hd i n).1, fun i n => (hd i n).2⟩

/-- A head of the kernel, with powers of two, is a head of the reference, with the exponential. -/
theorem heads (c : Dev nD) (d : Fin 16 → Fin 4096 → ℝ) (h : ∀ i n, decay m c i n = (d i n : EReal))
    (h' : ∀ i n, logDecay (argG m c) (argB m c) i n = ((d i n * Real.log 2 : ℝ) : EReal)) (g : Fin 8) :
    outKernel m c g = outRef (argQ m c) (argK m c) (argG m c) (argV m c) (argB m c) g := by
  unfold outKernel outRef
  simp only [h, h']
  refine congrArg₂ (fun q k => mixed q k _) ?_ ?_
  · funext i x
    rw [(Cert.Math.factor (fun r => d r (keyCol g x)) i).1]
  · funext i x
    rw [(Cert.Math.factor (fun r => d r (keyCol g x)) i).2]

/-- The kernel's result is the reference's, entry by entry. -/
theorem equal_entry (c : Dev nD) (fin : ∀ i n, ∃ u : ℝ, gate m c i n = (u : EReal)) (b : Fin 4) (r : Fin 16) (n : Fin 8192) :
    (Pipeline.afterTail₀ cfgs (dats m) 0 (V0 m) [hostOps1] c main_v141 : S4x16x8192.Idx → EReal) (ix3 b r n)
      = Cert.ReferenceIdeal.Read.val_main_v52 (F := Ideal) (argQ m c) (argK m c) (argG m c) (argV m c) (argZ m c) (argB m c) (argN m c) (ix3 b r n) := by
  obtain ⟨d, h, h'⟩ := decays m c fin
  obtain ⟨g, x, rfl⟩ : ∃ (g : Fin 8) (x : Fin 1024), n = valueCol g x :=
    ⟨⟨n.val / 1024, by omega⟩, ⟨n.val % 1024, by omega⟩, Fin.ext (by show n.val = n.val / 1024 * 1024 + n.val % 1024; omega)⟩
  rw [result_array, array_entry, group_entry m c (fun i n => by rw [h, ← EReal.coe_sub, sub_self, EReal.coe_zero]) g r x,
    Cert.ReferenceIdeal.Hand.result_entry]
  have hg : (⟨(valueCol g x).val / 1024, by omega⟩ : Fin 8) = g := Fin.ext (by show (g.val * 1024 + x.val) / 1024 = g.val; omega)
  have hx : (⟨(valueCol g x).val % 1024, by omega⟩ : Fin 1024) = x := Fin.ext (by show (g.val * 1024 + x.val) % 1024 = x.val; omega)
  dsimp only
  rw [hg, hx, heads m c d h h' g]
  generalize outRef (argQ m c) (argK m c) (argG m c) (argV m c) (argB m c) g = o
  show o r x * scale (o r) * (argZ m c (ix2 r (valueCol g x)) * Ideal.div 1 (1 + Ideal.exp (-argZ m c (ix2 r (valueCol g x)))) * argN m c (ix1 (valueCol g x))) = _
  generalize scale (o r) = s
  generalize o r x = y
  generalize (argZ m c (ix2 r (valueCol g x)) : EReal) = z
  generalize (argN m c (ix1 (valueCol g x)) : EReal) = w
  generalize Ideal.div 1 (1 + Ideal.exp (-z)) = l
  rw [mul_assoc (y * s) w, mul_comm w]

/-- The kernel's result is the reference's. -/
theorem equal (c : Dev nD) (fin : ∀ i n, ∃ u : ℝ, gate m c i n = (u : EReal)) :
    (Pipeline.afterTail₀ cfgs (dats m) 0 (V0 m) [hostOps1] c main_v141 : S4x16x8192.Idx → EReal)
      = Cert.ReferenceIdeal.Read.val_main_v52 (F := Ideal) (argQ m c) (argK m c) (argG m c) (argV m c) (argZ m c) (argB m c) (argN m c) := by
  funext j
  obtain ⟨b, r, n, rfl⟩ : ∃ (b : Fin 4) (r : Fin 16) (n : Fin 8192), j = ix3 b r n := ⟨j 0, j 1, j 2, by
    funext a
    match a with
    | ⟨0, _⟩ => rfl
    | ⟨1, _⟩ => rfl
    | ⟨2, _⟩ => rfl⟩
  exact equal_entry m c fin b r n

/-- The rows that a run leaves as its result. -/
abbrev result (c : Dev nD) : Buf (Elt Ideal) ((c.tc : Thread nD τ).loc main_v141) :=
  Pipeline.afterTail₀ cfgs (dats m) 0 (V0 m) [hostOps1] c main_v141

/-- A run that ends as the frame says has those rows in its result. -/
theorem result_read (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v141) = result m c :=
  (h c).2 main_v141 (Pipeline.mem_restRefs_of main_v141 (by decide) (by decide))

/-- A number whose absolute value is below the word of infinity is real. -/
theorem real_of_below (x : EReal)
    (h : FloatOps.cmpf (F := Ideal) (φ := .f32) .olt (FloatOps.absf (F := Ideal) (φ := .f32) x) (Ideal.ofBits .f32 0x7F800000#32) = 1#1) :
    ∃ u : ℝ, x = (u : EReal) := by
  have top : Ideal.ofBits .f32 0x7F800000#32 = ⊤ := by simp [Ideal.ofBits, Ideal.ieee]
  rw [top] at h
  induction x with
  | coe u => exact ⟨u, rfl⟩
  | bot => exact absurd h (by simp [FloatOps.cmpf, FloatOps.absf, Ideal.cmp])
  | top => exact absurd h (by simp [FloatOps.cmpf, FloatOps.absf, Ideal.cmp])

/-- The precondition makes the gates real. -/
theorem gates_real [Cert.Pre_finite.Facts] (c : Dev nD) (x0 x2 x4 : FVec Ideal Cert.Pre_finite.S4x2048x4096 .f32)
    (x1 x3 x5 : FVec Ideal Cert.Pre_finite.S16x4096 .f32) (x6 x8 : FVec Ideal Cert.Pre_finite.S4x2048x8192 .f32)
    (x7 x9 : FVec Ideal Cert.Pre_finite.S16x8192 .f32) (x10 : FVec Ideal Cert.Pre_finite.S4096 .f32) (x11 : FVec Ideal Cert.Pre_finite.S8192 .f32)
    (h : Cert.Pre_finite.fn (F := Ideal) x0 x1 x2 x3 x4 x5 x6 x7 x8 x9 x10 x11 = fun _ => 1#1) (i : Fin 16) (n : Fin 4096) :
    ∃ u : ℝ, (x5 (ix2 i n) + x10 (ix1 n) : EReal) = (u : EReal) := by
  have e := congrFun h ix0
  unfold Cert.Pre_finite.fn at e
  obtain ⟨e1, e2⟩ := IntOp.andi_eq_one.1 e
  haveI : Subsingleton Cert.Pre_finite.S_.Idx := ⟨fun a b => funext fun k => k.elim0⟩
  obtain ⟨a, ha⟩ := real_of_below (x5 (ix2 i n)) (Host.reduce_andi_all _ _ _ _ _ e1 (ix2 i n))
  obtain ⟨b, hb⟩ := real_of_below (x10 (ix1 n)) (Host.reduce_andi_all _ _ _ _ _ e2 (ix1 n))
  exact ⟨a + b, by rw [ha, hb, EReal.coe_add]⟩

end Cert.KernelIdeal.Hand

end
-- ==== Proof.ClaimsA.lean ====
-- The claims about the attention.
module

public import proofs.«01_k».proof.Defs
public import proofs.«01_k».proof.Proof.Gen.Kernel
public import proofs.«01_k».proof.Proof.AttnEqual
public import proofs.«01_k».proof.Proof.Gen.ReferenceIdeal.Run

@[expose] public section

noncomputable section

namespace Cert.Proof

open Idealize.ShloMosaic Idealize.SL.Sem

/-- The kernel and its idealized text have the same body, at any float values. -/
theorem bodiesA : Cert.Kernel.defs₀ (F := Bits) = Cert.KernelIdeal.defs₀ := by
  unfold Cert.Kernel.defs₀ Cert.KernelIdeal.defs₀
  refine congrArg _ ?_
  funext l p
  match l, p with
  | 0, (t, s) => rfl

theorem callsA : Cert.Kernel.defs (F := Bits) = Cert.KernelIdeal.defs :=
  congrArg (Pipeline.defs _) bodiesA

theorem part0A : Cert.Kernel.main_part0 (F := Bits) = Cert.KernelIdeal.main_part0 := by
  unfold Cert.Kernel.main_part0 Cert.KernelIdeal.main_part0
  rfl

theorem part1A : Cert.Kernel.main_part1 (F := Bits) = Cert.KernelIdeal.main_part1 := by
  unfold Cert.Kernel.main_part1 Cert.KernelIdeal.main_part1
  rfl

theorem part2A : Cert.Kernel.main_part2 (F := Bits) = Cert.KernelIdeal.main_part2 := by
  unfold Cert.Kernel.main_part2 Cert.KernelIdeal.main_part2
  rfl

theorem part3A : Cert.Kernel.main_part3 (F := Bits) = Cert.KernelIdeal.main_part3 := by
  unfold Cert.Kernel.main_part3 Cert.KernelIdeal.main_part3
  rfl

/-- The host operations before the call are the same in both texts. -/
theorem mainsA : Cert.Kernel.main (F := Bits) = Cert.KernelIdeal.main := by
  unfold Cert.Kernel.main Cert.KernelIdeal.main
  rw [part0A, part1A, part2A, part3A]
  rfl

/-- The kernel over the chip's words keeps its arguments: its text is the idealized kernel's. -/
theorem frame_kernelA : Cert.quiescent_Kernel := fun m ρ _ => by
  rw [callsA, mainsA]
  exact Cert.KernelIdeal.Gen.frame (F := Bits) m ρ

theorem frame_kernelA_ideal : Cert.quiescent_KernelIdeal := fun m ρ _ =>
  Cert.KernelIdeal.Gen.frame (F := Ideal) m ρ

theorem frame_referenceA : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two frames hold from every memory, hence from those with finite gates. -/
theorem frame_kernelA_finite : Cert.quiescent_KernelIdeal_pre_finite := fun m ρ _ =>
  frame_kernelA_ideal m ρ trivial

@[inherit_doc frame_kernelA_finite] theorem frame_referenceA_finite : Cert.quiescent_ReferenceIdeal_pre_finite := fun m ρ _ =>
  frame_referenceA m ρ trivial

/-- With finite gates the meta tokens' rows of the kernel and of the reference are equal. -/
theorem algebraicA : Cert.algebraic_KernelIdeal_ReferenceIdeal_pre_finite := by
  intro m ρ m' ρ' pre agree
  refine ⟨fun c => Cert.KernelIdeal.Hand.result m c, ?_, ?_⟩
  · exact (θ_run Cert.KernelIdeal.defs _ _).mono (fun _ h => fun c => ⟨Cert.KernelIdeal.Hand.result_read m _ h.1 c, h.2 c⟩)
      (θ_run_and (Cert.KernelIdeal.Gen.run_main (F := Ideal) m ρ) (Cert.KernelIdeal.Gen.unchanged (F := Ideal) m ρ))
  refine (θ_run Cert.ReferenceIdeal.defs _ _).mono (fun _ h => fun c => ⟨(h c).1.trans ?_, (h c).2⟩)
    (Cert.ReferenceIdeal.Value.run (F := Ideal) m' ρ')
  obtain ⟨e0, e1, e2, e3, e4, e5, e6, e7, e8, e9, e10, e11⟩ := agree c
  rw [Cert.ReferenceIdeal.Read.val_main_v52_eq m' c, e1, e3, e5, e7, e9, e10, e11]
  exact (Cert.KernelIdeal.Hand.equal m c fun i n => Cert.KernelIdeal.Hand.gates_real c _ _ _ _ _ _ _ _ _ _ _ _ (pre c) i n).symm

end Cert.Proof

end
-- ==== Proof.ProjZ.lean ====
/- The projection of layer 1 onto its SiLU gate path: what one grid point computes, what the array holds after the run, what
   the reference computes, and that the two are one array over the extended reals. -/
module

public import proofs.«01_k».proof.Proof.Gen.KernelZIdeal.Value
public import proofs.«01_k».proof.Proof.Gen.ReferenceZIdeal.Run
public import proofs.«01_k».proof.Proof.Gen.ReferenceZIdeal.Read
public import proofs.«01_k».proof.Proof.Sigmoid
public import Idealize.ShloMosaic.Lib.Pointwise
public import Idealize.ShloMosaic.Lib.Quiescent

@[expose] public section

noncomputable section

namespace Cert.KernelZIdeal.Hand

open Cert.KernelZIdeal Cert.KernelZIdeal.Gen Idealize.ShloMosaic Idealize.ShloMosaic.TcCoe Idealize.SL.Sem

theorem hz : (![0, 0] : Fin 2 → Nat) = fun _ => 0 := funext fun a => by fin_cases a <;> rfl

/-- One output element: the SiLU of a product's element, times the gain. -/
def gated (s g : EReal) : EReal := s * Ideal.logistic s * g

/-- One element of what a grid point stores: the gated sum over the 4096 inputs. -/
theorem out_apply (x0 : Vec Ideal S1376x4096 .bf16) (x1 : Vec Ideal S4096x512 .f32) (x2 : Vec Ideal S1x512 .f32) (j : S1376x512.Idx) :
    out0_3 x0 x1 x2 j = gated (∑ k : Fin 4096, x0 (ix2 (j 0) k) * x1 (ix2 k (j 1))) (x2 (ix2 0 (j 1))) := by
  unfold out0_3
  rw [View.canon_unit_zero hz]
  unfold k0_pay1
  simp only [View.ld_unit_zero (S := S1376x4096) hz, View.ld_unit_zero (S := S4096x512) hz, View.ld_unit_zero (S := S1x512) hz]
  pointwise
  unfold gated
  rw [← Cert.Math.half_tanh]

variable (m : (ℓ : Loc nD τ sig) → Buf (Elt Ideal) ℓ) (ρ : Dev nD → PrngReg)

/-- The array after the run, as one function of the three arguments. -/
def G (a : Vec Ideal S8256x4096 .bf16) (w : Vec Ideal S4096x24576 .f32) (g : Vec Ideal S8192 .f32) : Vec Ideal S8256x8192 .bf16 :=
  fun i => gated (∑ k : Fin 4096, a (ix2 (i 0) k) * w (ix2 k ⟨16384 + (i 1).val, by have : (i 1).val < 8192 := (i 1).isLt; omega⟩)) (g (ix1 (i 1)))

/-- Where each window's block lies at grid point `t`. -/
theorem places : ∀ t : Fin cfg0.N, win0_0.index t = ![t.val / 16, 0] ∧ win0_1.index t = ![0, 32 + t.val % 16]
    ∧ win0_2.index t = ![0, t.val % 16] ∧ win0_3.index t = ![t.val / 16, t.val % 16] :=
  (by decide +kernel : ∀ t : Fin grid0.N, _)

/-- The region finds the gain as the one-row array that the host makes of the argument. -/
theorem gain_entry (c : Dev nD) (j : Fin 8192) :
    V m c main_v0 (ix2 (0 : Fin 1) j) = m ((c : Thread nD τ).loc main_arg2) (ix1 j) := by
  entry_read
  pointwise

theorem lt_96 (t : Fin cfg0.N) : t.val < 96 := lt_of_lt_of_eq t.isLt N_0

/-- Row `r` of the activations' block at point `t`. -/
def row (t : Fin cfg0.N) (r : Fin 1376) : Fin 8256 := ⟨t.val / 16 * 1376 + r.val, by have := lt_96 t; omega⟩
/-- Column `j` of the output's block at point `t`. -/
def col (t : Fin cfg0.N) (j : Fin 512) : Fin 8192 := ⟨t.val % 16 * 512 + j.val, by omega⟩

theorem act_block (c : Dev nD) (t : Fin cfg0.N) (r : Fin 1376) (k : Fin 4096) :
    (iblk m c 0 t : Vec Ideal S1376x4096 .bf16) (ix2 r k) = m ((c : Thread nD τ).loc main_arg0) (ix2 (row t r) k) := by
  obtain ⟨p0, -, -, -⟩ := places t
  rw [← V_main_arg0 m c]
  show V m c main_arg0 _ = V m c main_arg0 _
  congr 1
  funext a
  apply Fin.ext
  match a with
  | ⟨0, _⟩ => show win0_0.index t 0 * 1376 + 1 * r.val = t.val / 16 * 1376 + r.val; rw [p0]; show t.val / 16 * 1376 + 1 * r.val = _; omega
  | ⟨1, _⟩ => show win0_0.index t 1 * 4096 + 1 * k.val = k.val; rw [p0]; show 0 * 4096 + 1 * k.val = _; omega

theorem weight_block (c : Dev nD) (t : Fin cfg0.N) (k : Fin 4096) (j : Fin 512) :
    (iblk m c 1 t : Vec Ideal S4096x512 .f32) (ix2 k j)
      = m ((c : Thread nD τ).loc main_arg1) (ix2 k ⟨16384 + (col t j).val, by have := (col t j).isLt; omega⟩) := by
  obtain ⟨-, p1, -, -⟩ := places t
  rw [← V_main_arg1 m c]
  show V m c main_arg1 _ = V m c main_arg1 _
  congr 1
  funext a
  apply Fin.ext
  match a with
  | ⟨0, _⟩ => show win0_1.index t 0 * 4096 + 1 * k.val = k.val; rw [p1]; show 0 * 4096 + 1 * k.val = _; omega
  | ⟨1, _⟩ =>
    show win0_1.index t 1 * 512 + 1 * j.val = 16384 + (t.val % 16 * 512 + j.val)
    rw [p1]; show (32 + t.val % 16) * 512 + 1 * j.val = _; omega

theorem gain_block (c : Dev nD) (t : Fin cfg0.N) (j : Fin 512) :
    (iblk m c 2 t : Vec Ideal S1x512 .f32) (ix2 0 j) = m ((c : Thread nD τ).loc main_arg2) (ix1 (col t j)) := by
  obtain ⟨-, -, p2, -⟩ := places t
  rw [← gain_entry m c]
  show V m c main_v0 _ = V m c main_v0 _
  congr 1
  funext a
  apply Fin.ext
  match a with
  | ⟨0, _⟩ => show win0_2.index t 0 * 1 + 1 * 0 = 0; rw [p2]; rfl
  | ⟨1, _⟩ => show win0_2.index t 1 * 512 + 1 * j.val = t.val % 16 * 512 + j.val; rw [p2]; show t.val % 16 * 512 + 1 * j.val = _; omega

/-- What grid point `t` writes back is block `t` of `G`. -/
theorem flushed (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨-, -, -, p3⟩ := places t
  rw [Value.flushed3]
  refine funext fun (y : S1376x512.Idx) => ?_
  have place : ((cfg0.win 3).blk t).view.emb y = (ix2 (row t (y 0)) (col t (y 1)) : S8256x8192.Idx) := by
    funext a
    apply Fin.ext
    match a with
    | ⟨0, _⟩ => show win0_3.index t 0 * 1376 + 1 * (y 0).val = t.val / 16 * 1376 + (y 0).val; rw [p3]; show t.val / 16 * 1376 + 1 * (y 0).val = _; omega
    | ⟨1, _⟩ => show win0_3.index t 1 * 512 + 1 * (y 1).val = t.val % 16 * 512 + (y 1).val; rw [p3]; show t.val % 16 * 512 + 1 * (y 1).val = _; omega
  show out0_3 _ _ _ y = G (m ((c : Thread nD τ).loc main_arg0)) (m ((c : Thread nD τ).loc main_arg1)) (m ((c : Thread nD τ).loc main_arg2)) (((cfg0.win 3).blk t).view.emb y)
  rw [place]
  exact (out_apply _ _ _ y).trans (congrArg₂ gated
    (Finset.sum_congr rfl fun k _ => congrArg₂ (· * ·) (act_block m c t (y 0) k) (weight_block m c t k (y 1)))
    (gain_block m c t (y 1)))

/-- The grid point whose block holds element `i`. -/
def point (i : S8256x8192.Idx) : Fin cfg0.N :=
  ⟨16 * ((i 0).val / 1376) + (i 1).val / 512, by
    have h0 : (i 0).val < 8256 := (i 0).isLt
    have h1 : (i 1).val < 8192 := (i 1).isLt
    show _ < grid0.N
    rw [N_0]
    omega⟩

/-- Every element of the array lies in the block of some grid point. -/
theorem covered (i : S8256x8192.Idx) : ∃ t : Fin cfg0.N, (cfg0.win 3).flush t = true ∧ i ∈ ((cfg0.win 3).blk t).view.set := by
  have h0 : (i 0).val < 8256 := (i 0).isLt
  have h1 : (i 1).val < 8192 := (i 1).isLt
  refine ⟨point i, flush0_3 _, ?_⟩
  obtain ⟨-, -, -, p3⟩ := places (point i)
  have e : (point i).val = 16 * ((i 0).val / 1376) + (i 1).val / 512 := rfl
  generalize point i = t at p3 e ⊢
  show i ∈ ((View.whole main_v1).slice (win0_3.rect t)).set
  rw [View.set_slice_whole, Rect.mem_set_unit]
  intro a
  match a with
  | ⟨0, _⟩ =>
    show win0_3.index t 0 * 1376 ≤ (i 0).val ∧ (i 0).val < win0_3.index t 0 * 1376 + 1376
    rw [p3]
    show t.val / 16 * 1376 ≤ (i 0).val ∧ (i 0).val < t.val / 16 * 1376 + 1376
    omega
  | ⟨1, _⟩ =>
    show win0_3.index t 1 * 512 ≤ (i 1).val ∧ (i 1).val < win0_3.index t 1 * 512 + 512
    rw [p3]
    show t.val % 16 * 512 ≤ (i 1).val ∧ (i 1).val < t.val % 16 * 512 + 512
    omega

/-- The array after the run is `G` of the arguments. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed m c t) covered

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference's array is `G` of the same arguments. -/
theorem reference_value (a : Vec Ideal S8256x4096 .bf16) (w : Vec Ideal S4096x24576 .f32) (g : Vec Ideal S8192 .f32) :
    Cert.ReferenceZIdeal.Read.val_main_v7 (F := Ideal) a w g = G a w g := by
  open Cert.ReferenceZIdeal.Read in
  funext i
  rw [val_main_v7_apply, val_main_v6_apply, val_main_v5_apply, val_main_v4_apply, val_main_v3_apply, val_main_call0_v5_apply,
    val_main_call0_v4_apply, val_main_call0_cst_0_apply, val_main_call0_v3_apply, val_main_call0_v2_apply,
    val_main_call0_cst_apply, val_main_call0_v1_apply, val_main_call0_v0_apply, val_main_v2_apply]
  simp only [val_main_v0_apply, val_main_v1_apply]
  have one : (FloatOps.ofBits .f32 0x3F800000#32 : Ideal .f32) = (1 : EReal) := by
    show Ideal.ofBits .f32 0x3F800000#32 = 1
    simp [Ideal.ofBits, Ideal.ieee, -EReal.coe_mul]
    norm_num
  have e : ∀ k : Fin 4096, a (lidx_main_v2 i k) * w (idx_main_v1 (ridx_main_v2 i k))
      = a (ix2 (i 0) k) * w (ix2 k ⟨16384 + (i 1).val, by have : (i 1).val < 8192 := (i 1).isLt; omega⟩) := by
    intro k
    congr 2 <;> funext d <;> fin_cases d <;> rfl
  have s : (∑ k : Fin 4096, FloatOps.extf (F := Ideal) .f32 Cert.ReferenceZIdeal.Gen.bitsLt_bf16_f32 (a (lidx_main_v2 i k)) * w (idx_main_v1 (ridx_main_v2 i k)) : EReal)
      = ∑ k : Fin 4096, a (ix2 (i 0) k) * w (ix2 k ⟨16384 + (i 1).val, by have : (i 1).val < 8192 := (i 1).isLt; omega⟩) :=
    Finset.sum_congr rfl fun k _ => e k
  have p : idx_main_v4 (idx_main_v5 i) = ix1 (i 1) := by
    funext d; fin_cases d; rfl
  rw [one, s, p]
  rfl

end Cert.KernelZIdeal.Hand

end
-- ==== Proof.ClaimsZ.lean ====
-- The claims about the gate path's projection.
module

public import proofs.«01_k».proof.Defs
public import proofs.«01_k».proof.Proof.Gen.KernelZ
public import proofs.«01_k».proof.Proof.ProjZ

@[expose] public section

noncomputable section

namespace Cert.Proof

open Idealize.ShloMosaic Idealize.SL.Sem

/-- The kernel and its idealized text have the same body, at any float values. -/
theorem bodiesZ : Cert.KernelZ.defs₀ (F := Bits) = Cert.KernelZIdeal.defs₀ := by
  unfold Cert.KernelZ.defs₀ Cert.KernelZIdeal.defs₀
  refine congrArg _ ?_
  funext l p
  match l, p with
  | 0, (t, s) => rfl

theorem callsZ : Cert.KernelZ.defs (F := Bits) = Cert.KernelZIdeal.defs :=
  congrArg (Pipeline.defs _) bodiesZ

/-- The kernel over the chip's words keeps its arguments: its text is the idealized kernel's. -/
theorem frame_kernelZ : Cert.quiescent_KernelZ := fun m ρ _ => by
  rw [callsZ]
  exact Cert.KernelZIdeal.Gen.frame (F := Bits) m ρ

theorem frame_kernelZ_ideal : Cert.quiescent_KernelZIdeal := fun m ρ _ =>
  Cert.KernelZIdeal.Gen.frame (F := Ideal) m ρ

theorem frame_referenceZ : Cert.quiescent_ReferenceZIdeal := fun m ρ _ =>
  (θ_run Cert.ReferenceZIdeal.defs _ _).mono (fun r h => ⟨fun c => (h c).2, sem_eq_zero_of_no_sems (by decide) r.2⟩)
    (Cert.ReferenceZIdeal.Value.run (F := Ideal) m ρ)

/-- Kernel and reference end with the same array, the gated product of the arguments. -/
theorem algebraicZ : Cert.algebraic_KernelZIdeal_ReferenceZIdeal := by
  intro m ρ m' ρ' _ agree
  refine ⟨_, Cert.KernelZIdeal.Hand.run m ρ, ?_⟩
  refine (θ_run Cert.ReferenceZIdeal.defs _ _).mono (fun _ h => fun c => ⟨(h c).1.trans ?_, (h c).2⟩)
    (Cert.ReferenceZIdeal.Value.run (F := Ideal) m' ρ')
  obtain ⟨e0, e1, e2⟩ := agree c
  rw [e0, e1, e2]
  exact Cert.KernelZIdeal.Hand.reference_value _ _ _

end Cert.Proof

end
-- ==== Proof.ProjO.lean ====
-- The output projection: the kernel adds eight partial products over blocks of 1024 of the 8192 inputs, one grid point
-- after the other; the reference takes the product at once.
module

public import proofs.«01_k».proof.Proof.Gen.KernelOIdeal.Value
public import proofs.«01_k».proof.Proof.Gen.ReferenceOIdeal.Run
public import proofs.«01_k».proof.Proof.Gen.ReferenceOIdeal.Read
public import Idealize.ShloMosaic.Lib.Pointwise
public import Idealize.ShloMosaic.Lib.Quiescent

@[expose] public section

set_option maxRecDepth 16384

noncomputable section

namespace Cert.KernelOIdeal.Hand

open Cert.KernelOIdeal Cert.KernelOIdeal.Gen Idealize.ShloMosaic Idealize.ShloMosaic.TcCoe Idealize.SL.Sem

theorem hz : (![0, 0] : Fin 2 → Nat) = fun _ => 0 := funext fun a => by fin_cases a <;> rfl

/-- The partial product of a block of rows with a block of the weight. -/
theorem first_apply (x : Vec Ideal S2064x1024 .bf16) (w : Vec Ideal S1024x1024 .f32) (r : Fin 2064) (j : Fin 1024) :
    k0_pay1 x w (ix2 r j) = ∑ k : Fin 1024, x (ix2 r k) * w (ix2 k j) := by
  unfold k0_pay1
  pointwise

/-- A later partial product is added to the accumulator. -/
theorem later_apply (acc : Vec Ideal S2064x1024 .f32) (x : Vec Ideal S2064x1024 .bf16) (w : Vec Ideal S1024x1024 .f32) (r : Fin 2064) (j : Fin 1024) :
    k0_pay2 acc x w (ix2 r j) = acc (ix2 r j) + ∑ k : Fin 1024, x (ix2 r k) * w (ix2 k j) := by
  unfold k0_pay2
  pointwise

/-! What each kind of grid point leaves in the accumulator, and what the last of eight stores. -/

theorem acc_A (c : Dev nD) (i : grid0.Coords) (a3 : Memref sig .tc .vmem S2064x1024 .bf16) (h3 : a3.IsWhole)
    (a4 : Memref sig .tc .vmem S1024x1024 .f32) (h4 : a4.IsWhole) (a5 : Memref sig .tc .vmem S2064x1024 .bf16) (h5 : a5.IsWhole)
    (a6 : Memref sig .tc .vmem S2064x1024 .f32) (h6 : a6.IsWhole) (c0 : cond0_0 i) (c1 : ¬cond0_1 i) (c2 : ¬cond0_2 i)
    (x : Vec Ideal S2064x1024 .bf16) (w : Vec Ideal S1024x1024 .f32) :
    sout0_A_0 c i a3 h3 a4 h4 a5 h5 a6 h6 c0 c1 c2 x w = k0_pay1 x w := by
  unfold sout0_A_0
  rw [View.read_writes_eq_canon _ _ _ (scover0_A_0 c i a3 h3 a4 h4 a5 h5 a6 h6 c0 c1 c2 x w)]
  unfold kernelRun0_A
  dsimp only
  rw [View.canon_unit_zero hz]
  simp only [View.readAt_eq_ld, h3.read_unread, h4.read_unread, View.ld_unit_zero (S := S2064x1024) hz, View.ld_unit_zero (S := S1024x1024) hz]

theorem acc_B (c : Dev nD) (i : grid0.Coords) (a3 : Memref sig .tc .vmem S2064x1024 .bf16) (h3 : a3.IsWhole)
    (a4 : Memref sig .tc .vmem S1024x1024 .f32) (h4 : a4.IsWhole) (a5 : Memref sig .tc .vmem S2064x1024 .bf16) (h5 : a5.IsWhole)
    (a6 : Memref sig .tc .vmem S2064x1024 .f32) (h6 : a6.IsWhole) (c0 : ¬cond0_0 i) (c1 : cond0_1 i) (c2 : ¬cond0_2 i)
    (x : Vec Ideal S2064x1024 .bf16) (w : Vec Ideal S1024x1024 .f32) (acc : Vec Ideal S2064x1024 .f32) :
    sout0_B_0 c i a3 h3 a4 h4 a5 h5 a6 h6 c0 c1 c2 x w acc = k0_pay2 acc x w := by
  unfold sout0_B_0
  rw [View.read_writes_eq_canon _ _ _ (scover0_B_0 c i a3 h3 a4 h4 a5 h5 a6 h6 c0 c1 c2 x w acc)]
  unfold kernelRun0_B
  dsimp only
  rw [View.canon_unit_zero hz]
  simp only [View.readAt_eq_ld, h3.read_unread, h4.read_unread, h6.read_unread, View.ld_unit_zero (S := S2064x1024) hz, View.ld_unit_zero (S := S1024x1024) hz]

theorem acc_C (c : Dev nD) (i : grid0.Coords) (a3 : Memref sig .tc .vmem S2064x1024 .bf16) (h3 : a3.IsWhole)
    (a4 : Memref sig .tc .vmem S1024x1024 .f32) (h4 : a4.IsWhole) (a5 : Memref sig .tc .vmem S2064x1024 .bf16) (h5 : a5.IsWhole)
    (a6 : Memref sig .tc .vmem S2064x1024 .f32) (h6 : a6.IsWhole) (c0 : ¬cond0_0 i) (c1 : cond0_1 i) (c2 : cond0_2 i)
    (x : Vec Ideal S2064x1024 .bf16) (w : Vec Ideal S1024x1024 .f32) (acc : Vec Ideal S2064x1024 .f32) :
    sout0_C_0 c i a3 h3 a4 h4 a5 h5 a6 h6 c0 c1 c2 x w acc = k0_pay2 acc x w := by
  unfold sout0_C_0
  rw [View.read_writes_eq_canon _ _ _ (scover0_C_0 c i a3 h3 a4 h4 a5 h5 a6 h6 c0 c1 c2 x w acc)]
  unfold kernelRun0_C
  dsimp only
  sl_unfold_words
  rw [View.canon_unit_zero hz]
  simp only [View.readAt_eq_ld, h3.read_unread, h4.read_unread, h6.read_unread, View.ld_unit_zero (S := S2064x1024) hz, View.ld_unit_zero (S := S1024x1024) hz]

theorem out_C (c : Dev nD) (i : grid0.Coords) (a3 : Memref sig .tc .vmem S2064x1024 .bf16) (h3 : a3.IsWhole)
    (a4 : Memref sig .tc .vmem S1024x1024 .f32) (h4 : a4.IsWhole) (a5 : Memref sig .tc .vmem S2064x1024 .bf16) (h5 : a5.IsWhole)
    (a6 : Memref sig .tc .vmem S2064x1024 .f32) (h6 : a6.IsWhole) (c0 : ¬cond0_0 i) (c1 : cond0_1 i) (c2 : cond0_2 i)
    (x : Vec Ideal S2064x1024 .bf16) (w : Vec Ideal S1024x1024 .f32) (acc : Vec Ideal S2064x1024 .f32) :
    out0_C_2 c i a3 h3 a4 h4 a5 h5 a6 h6 c0 c1 c2 x w acc = k0_pay3 (k0_pay2 acc x w) := by
  unfold out0_C_2
  rw [View.read_writes_eq_canon _ _ _ (cover0_C_2 c i a3 h3 a4 h4 a5 h5 a6 h6 c0 c1 c2 x w acc)]
  unfold kernelRun0_C
  dsimp only
  sl_unfold_words
  rw [View.canon_unit_zero hz]
  simp only [View.readAt_eq_ld, h3.read_unread, h4.read_unread, h6.read_unread, View.ld_unit_zero (S := S2064x1024) hz, View.ld_unit_zero (S := S1024x1024) hz]
  congr 1
  exact View.readCov_unit_zero (S := S2064x1024) a6.view hz _ _

variable (m : (ℓ : Loc nD τ sig) → Buf (Elt Ideal) ℓ) (ρ : Dev nD → PrngReg)

/-- Where each window's block lies at grid point `t`. -/
theorem places : ∀ t : Fin cfg0.N, win0_0.index t = ![t.val / 32, t.val % 8] ∧ win0_1.index t = ![t.val % 8, t.val / 8 % 4]
    ∧ win0_2.index t = ![t.val / 32, t.val / 8 % 4] :=
  (by decide +kernel : ∀ t : Fin grid0.N, _)

theorem lt_128 (t : Fin cfg0.N) : t.val < 128 := lt_of_lt_of_eq t.isLt N_0

/-- Row `r` of the block of rows at point `t`, column `j` of the output's block, input `k` of the block of inputs. -/
def row (t : Fin cfg0.N) (r : Fin 2064) : Fin 8256 := ⟨t.val / 32 * 2064 + r.val, by have := lt_128 t; omega⟩
def col (t : Fin cfg0.N) (j : Fin 1024) : Fin 4096 := ⟨t.val / 8 % 4 * 1024 + j.val, by omega⟩
def inp (t : Fin cfg0.N) (k : Fin 1024) : Fin 8192 := ⟨t.val % 8 * 1024 + k.val, by omega⟩

theorem act_block (c : Dev nD) (t : Fin cfg0.N) (r : Fin 2064) (k : Fin 1024) :
    (iblk m c 0 t : Vec Ideal S2064x1024 .bf16) (ix2 r k) = m ((c : Thread nD τ).loc main_arg0) (ix2 (row t r) (inp t k)) := by
  obtain ⟨p0, -, -⟩ := places t
  rw [← V_main_arg0 m c]
  show V m c main_arg0 _ = V m c main_arg0 _
  congr 1
  funext a
  apply Fin.ext
  match a with
  | ⟨0, _⟩ => show win0_0.index t 0 * 2064 + 1 * r.val = t.val / 32 * 2064 + r.val; rw [p0]; show t.val / 32 * 2064 + 1 * r.val = _; omega
  | ⟨1, _⟩ => show win0_0.index t 1 * 1024 + 1 * k.val = t.val % 8 * 1024 + k.val; rw [p0]; show t.val % 8 * 1024 + 1 * k.val = _; omega

theorem weight_block (c : Dev nD) (t : Fin cfg0.N) (k : Fin 1024) (j : Fin 1024) :
    (iblk m c 1 t : Vec Ideal S1024x1024 .f32) (ix2 k j) = m ((c : Thread nD τ).loc main_arg1) (ix2 (inp t k) (col t j)) := by
  obtain ⟨-, p1, -⟩ := places t
  rw [← V_main_arg1 m c]
  show V m c main_arg1 _ = V m c main_arg1 _
  congr 1
  funext a
  apply Fin.ext
  match a with
  | ⟨0, _⟩ => show win0_1.index t 0 * 1024 + 1 * k.val = t.val % 8 * 1024 + k.val; rw [p1]; show t.val % 8 * 1024 + 1 * k.val = _; omega
  | ⟨1, _⟩ => show win0_1.index t 1 * 1024 + 1 * j.val = t.val / 8 % 4 * 1024 + j.val; rw [p1]; show t.val / 8 % 4 * 1024 + 1 * j.val = _; omega

/-- Input `k`'s share of element `(r, j)` of the product (nothing past the last input). -/
def share (y : Vec Ideal S8256x8192 .bf16) (w : Vec Ideal S8192x4096 .f32) (r : Fin 8256) (j : Fin 4096) (k : ℕ) : EReal :=
  if h : k < 8192 then y (ix2 r ⟨k, h⟩) * w (ix2 ⟨k, h⟩ j) else 0

theorem share_lt (y : Vec Ideal S8256x8192 .bf16) (w : Vec Ideal S8192x4096 .f32) (r : Fin 8256) (j : Fin 4096) (k : Fin 8192) :
    share y w r j k.val = y (ix2 r k) * w (ix2 k j) := dif_pos k.isLt

theorem mul_congr {a b a' b' : EReal} (h : a = a') (h' : b = b') : a * b = a' * b' := by rw [h, h']

/-- The product of two blocks at an element. -/
def dotAt (x : Vec Ideal S2064x1024 .bf16) (w : Vec Ideal S1024x1024 .f32) (r : Fin 2064) (j : Fin 1024) : EReal :=
  ∑ k : Fin 1024, x (ix2 r k) * w (ix2 k j)

/-- The array after the run, as one function of the two arguments. -/
def G (y : Vec Ideal S8256x8192 .bf16) (w : Vec Ideal S8192x4096 .f32) : Vec Ideal S8256x4096 .bf16 :=
  fun i => ∑ k ∈ Finset.range 8192, share y w (i 0) (i 1) k

/-- The partial product at point `t` is that of the shares of its 1024 inputs. -/
theorem partial_eq (c : Dev nD) (t : Fin cfg0.N) (r : Fin 2064) (j : Fin 1024) :
    dotAt (iblk m c 0 t) (iblk m c 1 t) r j
      = ∑ k ∈ Finset.range 1024, share (m ((c : Thread nD τ).loc main_arg0)) (m ((c : Thread nD τ).loc main_arg1)) (row t r) (col t j) (t.val % 8 * 1024 + k) := by
  rw [Finset.sum_range]
  exact Finset.sum_congr rfl fun k _ =>
    (mul_congr (act_block m c t r k) (weight_block m c t k j)).trans (share_lt _ _ _ _ (inp t k)).symm

/-- The accumulator after point `n` holds the shares of the inputs of the points since the last reset. -/
theorem acc_eq (c : Dev nD) (r : Fin 2064) (j : Fin 1024) : ∀ (n : ℕ) (hn : n < cfg0.N),
    (outsAt0 m c n hn).2 (ix2 r j) = (∑ k ∈ Finset.range ((n % 8 + 1) * 1024),
      share (m ((c : Thread nD τ).loc main_arg0)) (m ((c : Thread nD τ).loc main_arg1)) (row ⟨n, hn⟩ r) (col ⟨n, hn⟩ j) k : EReal) := by
  intro n
  induction n with
  | zero =>
    intro hn
    rw [Value.outsAt0_zero, Value.stAt0_A m c ⟨0, hn⟩ _ rfl (by show ¬ 1 ≤ 0 % 8; omega) (by show ¬ 0 % 8 = 7; omega)]
    dsimp only
    rw [acc_A]
    refine (first_apply _ _ r j).trans ((partial_eq m c ⟨0, hn⟩ r j).trans ?_)
    simp
  | succ n ih =>
    intro hn
    have ih := ih (Nat.lt_of_succ_lt hn)
    rw [Value.outsAt0_succ]
    by_cases h0 : (n + 1) % 8 = 0
    · rw [Value.stAt0_A m c ⟨n + 1, hn⟩ _ h0 (by show ¬ 1 ≤ (n + 1) % 8; omega) (by show ¬ (n + 1) % 8 = 7; omega)]
      dsimp only
      rw [acc_A]
      refine (first_apply _ _ r j).trans ((partial_eq m c ⟨n + 1, hn⟩ r j).trans ?_)
      simp [h0]
    · have hrow : row ⟨n, Nat.lt_of_succ_lt hn⟩ r = row ⟨n + 1, hn⟩ r := Fin.ext (by show n / 32 * 2064 + _ = (n + 1) / 32 * 2064 + _; omega)
      have hcol : col ⟨n, Nat.lt_of_succ_lt hn⟩ j = col ⟨n + 1, hn⟩ j := Fin.ext (by show n / 8 % 4 * 1024 + _ = (n + 1) / 8 % 4 * 1024 + _; omega)
      have hk : (n + 1) % 8 = n % 8 + 1 := by omega
      have step : (k0_pay2 (outsAt0 m c n (Nat.lt_of_succ_lt hn)).2 (iblk m c 0 ⟨n + 1, hn⟩) (iblk m c 1 ⟨n + 1, hn⟩)) (ix2 r j)
          = (∑ k ∈ Finset.range (((n + 1) % 8 + 1) * 1024),
              share (m ((c : Thread nD τ).loc main_arg0)) (m ((c : Thread nD τ).loc main_arg1)) (row ⟨n + 1, hn⟩ r) (col ⟨n + 1, hn⟩ j) k : EReal) := by
        refine (later_apply _ _ _ r j).trans ?_
        rw [ih, hrow, hcol, hk, show (n % 8 + 1 + 1) * 1024 = (n % 8 + 1) * 1024 + 1024 by ring, Finset.sum_range_add]
        congr 1
        refine (partial_eq m c ⟨n + 1, hn⟩ r j).trans ?_
        show (∑ k ∈ Finset.range 1024, share _ _ _ _ ((n + 1) % 8 * 1024 + k)) = _
        rw [hk]
      by_cases h2 : (n + 1) % 8 = 7
      · rw [Value.stAt0_C m c ⟨n + 1, hn⟩ _ h0 (by show 1 ≤ (n + 1) % 8; omega) h2]
        dsimp only
        rw [acc_C]
        exact step
      · rw [Value.stAt0_B m c ⟨n + 1, hn⟩ _ h0 (by show 1 ≤ (n + 1) % 8; omega) h2]
        dsimp only
        rw [acc_B]
        exact step

/-- The last point of eight stores what its accumulator holds. -/
theorem stored_eq (c : Dev nD) (t : Fin cfg0.N) (h : t.val % 8 = 7) : (outsAt0 m c t.val t.isLt).1 = k0_pay3 (outsAt0 m c t.val t.isLt).2 := by
  rw [outsAt0_C m c t (by omega) (by omega) h]
  dsimp only
  rw [out_C, acc_C]

/-- What a point that writes back leaves is block `t` of `G`. -/
theorem flushed (c : Dev nD) (t : Fin cfg0.N) (hf : (cfg0.win 2).flush t = true) :
    (dats m 0 c).flushed 2 t = ((cfg0.win 2).blk t).view.read (Elt Ideal)
      (G (m ((c : Thread nD τ).loc main_arg0)) (m ((c : Thread nD τ).loc main_arg1))) := by
  have h7 : t.val % 8 = 7 := (flush0_2 t).mp hf
  obtain ⟨-, -, p2⟩ := places t
  rw [Value.flushed2, stored_eq m c t h7]
  refine funext fun (y : S2064x1024.Idx) => ?_
  have place : ((cfg0.win 2).blk t).view.emb y = (ix2 (row t (y 0)) (col t (y 1)) : S8256x4096.Idx) := by
    funext a
    apply Fin.ext
    match a with
    | ⟨0, _⟩ => show win0_2.index t 0 * 2064 + 1 * (y 0).val = t.val / 32 * 2064 + (y 0).val; rw [p2]; show t.val / 32 * 2064 + 1 * (y 0).val = _; omega
    | ⟨1, _⟩ => show win0_2.index t 1 * 1024 + 1 * (y 1).val = t.val / 8 % 4 * 1024 + (y 1).val; rw [p2]; show t.val / 8 % 4 * 1024 + 1 * (y 1).val = _; omega
  show (outsAt0 m c t.val t.isLt).2 y = G (m ((c : Thread nD τ).loc main_arg0)) (m ((c : Thread nD τ).loc main_arg1)) (((cfg0.win 2).blk t).view.emb y)
  rw [place]
  obtain ⟨r, j, rfl⟩ : ∃ (r : Fin 2064) (j : Fin 1024), y = ix2 r j := ⟨y 0, y 1, eq_ix2 y⟩
  refine (acc_eq m c r j t.val t.isLt).trans ?_
  rw [h7]
  rfl

/-- The array after the run is `G` of the arguments. -/
theorem final (c : Dev nD) : (dats m 0 c).arrAt 2 cfg0.N = G (m ((c : Thread nD τ).loc main_arg0)) (m ((c : Thread nD τ).loc main_arg1)) :=
  (dats m 0 c).arrAt_eq_of_cover 2 _ (flushed m c) fun i => (Value.covered_iff2 i).2 (by
    have h0 : (i 0).val < 8256 := (i 0).isLt
    have h1 : (i 1).val < 4096 := (i 1).isLt
    omega)

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's array is `G` of the same arguments. -/
theorem reference_value (y : Vec Ideal S8256x8192 .bf16) (w : Vec Ideal S8192x4096 .f32) :
    Cert.ReferenceOIdeal.Read.val_main_v2 (F := Ideal) y w = G y w := by
  open Cert.ReferenceOIdeal.Read in
  funext i
  rw [val_main_v2_apply, val_main_v1_apply]
  simp only [val_main_v0_apply]
  unfold G
  rw [Finset.sum_range]
  show (∑ k : Fin 8192, y (lidx_main_v1 i k) * w (ridx_main_v1 i k) : EReal) = _
  refine Finset.sum_congr rfl fun k _ => ?_
  refine Eq.trans ?_ (share_lt y w (i 0) (i 1) k).symm
  congr 2 <;> funext d <;> fin_cases d <;> rfl

end Cert.KernelOIdeal.Hand

end
-- ==== Proof.ClaimsO.lean ====
-- The claims about the output projection.
module

public import proofs.«01_k».proof.Defs
public import proofs.«01_k».proof.Proof.Gen.KernelO
public import proofs.«01_k».proof.Proof.ProjO

@[expose] public section

noncomputable section

namespace Cert.Proof

open Idealize.ShloMosaic Idealize.SL.Sem

/-- The kernel and its idealized text have the same body, at any float values. -/
theorem bodiesO : Cert.KernelO.defs₀ (F := Bits) = Cert.KernelOIdeal.defs₀ := by
  unfold Cert.KernelO.defs₀ Cert.KernelOIdeal.defs₀
  refine congrArg _ ?_
  funext l p
  match l, p with
  | 0, (t, s) => rfl

theorem callsO : Cert.KernelO.defs (F := Bits) = Cert.KernelOIdeal.defs :=
  congrArg (Pipeline.defs _) bodiesO

/-- The kernel over the chip's words keeps its arguments: its text is the idealized kernel's. -/
theorem frame_kernelO : Cert.quiescent_KernelO := fun m ρ _ => by
  rw [callsO]
  exact Cert.KernelOIdeal.Gen.frame (F := Bits) m ρ

theorem frame_kernelO_ideal : Cert.quiescent_KernelOIdeal := fun m ρ _ =>
  Cert.KernelOIdeal.Gen.frame (F := Ideal) m ρ

theorem frame_referenceO : Cert.quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

/-- Kernel and reference end with the same array, the product of the arguments. -/
theorem algebraicO : Cert.algebraic_KernelOIdeal_ReferenceOIdeal := by
  intro m ρ m' ρ' _ agree
  refine ⟨_, Cert.KernelOIdeal.Hand.run m ρ, ?_⟩
  refine (θ_run Cert.ReferenceOIdeal.defs _ _).mono (fun _ h => fun c => ⟨(h c).1.trans ?_, (h c).2⟩)
    (Cert.ReferenceOIdeal.Value.run (F := Ideal) m' ρ')
  obtain ⟨e0, e1⟩ := agree c
  rw [e0, e1]
  exact Cert.KernelOIdeal.Hand.reference_value _ _

end Cert.Proof

end
-- ==== Proof.Norm.lean ====
/- The layer normalization that gives the model's result: what one grid point computes, what the array holds after the run, what
   the reference computes, and that the two are one array over the extended reals. -/
module

public import proofs.«01_k».proof.Proof.Gen.KernelNIdeal.Value
public import proofs.«01_k».proof.Proof.Gen.ReferenceNIdeal.Run
public import proofs.«01_k».proof.Proof.Gen.ReferenceNIdeal.Read
public import Idealize.ShloMosaic.Lib.Pointwise
public import Idealize.ShloMosaic.Lib.Quiescent

@[expose] public section

noncomputable section

namespace Cert.KernelNIdeal.Hand

open Cert.KernelNIdeal Cert.KernelNIdeal.Gen Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- An element of the residual sum: the weighted residual stream plus the product of the output projection. -/
def scaled (h r : EReal) : EReal := Ideal.ofBits .f32 0x3FB504F3#32 * h + r

/-- The mean of a row of 4096 elements. -/
def mean (u : Fin 4096 → EReal) : EReal := Ideal.div (∑ x, u x) (Ideal.ofBits .f32 0x45800000#32)

/-- Element `k` of a normalized row, with gain `g` and offset `b`. -/
def normed (u : Fin 4096 → EReal) (g b : EReal) (k : Fin 4096) : EReal :=
  (u k - mean u) * Ideal.rsqrt (mean (fun x => (u x - mean u) * (u x - mean u)) + Ideal.ofBits .f32 0x3727C5AC#32) * g + b

/-- One element of what a grid point stores: the normalized row's element. -/
theorem out_apply (c : Dev nD) (i : grid0.Coords) (a0 : Memref sig .tc .vmem S1x512x4096 .f32) (h0 : a0.IsWhole)
    (a1 : Memref sig .tc .vmem S1x512x4096 .bf16) (h1 : a1.IsWhole) (a2 : Memref sig .tc .vmem S1x4096 .f32) (h2 : a2.IsWhole)
    (a3 : Memref sig .tc .vmem S1x4096 .f32) (h3 : a3.IsWhole) (a4 : Memref sig .tc .vmem S1x512x4096 .f32) (h4 : a4.IsWhole)
    (x0 : Vec Ideal S1x512x4096 .f32) (x1 : Vec Ideal S1x512x4096 .bf16) (x2 : Vec Ideal S1x4096 .f32) (x3 : Vec Ideal S1x4096 .f32)
    (j : S1x512x4096.Idx) :
    out0_A_4 c i a0 h0 a1 h1 a2 h2 a3 h3 a4 h4 x0 x1 x2 x3 j
      = normed (fun k => scaled (x0 (ix3 0 (j 1) k)) (x1 (ix3 0 (j 1) k))) (x2 (ix2 0 (j 2))) (x3 (ix2 0 (j 2))) (j 2) := by
  unfold out0_A_4
  rw [View.read_writes_junk_eq_canon]
  unfold kernelRun0_A
  simp only
  rw [View.canon_unit_zero hz3]
  unfold k0_pay1
  simp only [View.readAt_eq_ld, Memref.IsWhole.read_unread, View.ld_unit_zero (S := S1x512x4096) hz3, View.ld_unit_zero (S := S1x4096) hz]
  pointwise
  have e : j = (ix3 0 (j 1) (j 2) : S1x512x4096.Idx) := by
    funext a
    match a with
    | ⟨0, _⟩ => exact Subsingleton.elim (α := Fin 1) _ _
    | ⟨1, _⟩ => rfl
    | ⟨2, _⟩ => rfl
  rw [show x0 j = x0 (ix3 0 (j 1) (j 2)) from congrArg x0 e, show x1 j = x1 (ix3 0 (j 1) (j 2)) from congrArg x1 e]
  rfl

variable (m : (ℓ : Loc nD τ sig) → Buf (Elt Ideal) ℓ) (ρ : Dev nD → PrngReg)

/-- A token's place among the rows with the 16 memory tokens behind them. -/
def tok (r : Fin 2048) : Fin 2064 := ⟨r.val, by omega⟩

/-- The array after the run, as one function of the four arguments. -/
def G (h : Vec Ideal S4x2064x4096 .f32) (r : Vec Ideal S4x2064x4096 .bf16) (g b : Vec Ideal S4096 .f32) : Vec Ideal S4x2048x4096 .f32 :=
  fun i => normed (fun k => scaled (h (ix3 (i 0) (tok (i 1)) k)) (r (ix3 (i 0) (tok (i 1)) k))) (g (ix1 (i 2))) (b (ix1 (i 2))) (i 2)

/-- Where each window's block lies at grid point `t`. -/
theorem places : ∀ t : Fin cfg0.N, win0_0.index t = ![t.val / 4, t.val % 4, 0] ∧ win0_1.index t = ![t.val / 4, t.val % 4, 0]
    ∧ win0_2.index t = ![0, 0] ∧ win0_3.index t = ![0, 0] ∧ win0_4.index t = ![t.val / 4, t.val % 4, 0] :=
  (by decide +kernel : ∀ t : Fin grid0.N, _)

/-- The region finds the gain as the one-row array that the host makes of the argument. -/
theorem gain_entry (c : Dev nD) (j : Fin 4096) :
    V m c main_v0 (ix2 (0 : Fin 1) j) = m ((c : Thread nD τ).loc main_arg2) (ix1 j) := by
  entry_read
  pointwise

/-- The same for the offset. -/
theorem offset_entry (c : Dev nD) (j : Fin 4096) :
    V m c main_v1 (ix2 (0 : Fin 1) j) = m ((c : Thread nD τ).loc main_arg3) (ix1 j) := by
  entry_read
  pointwise

theorem lt_16 (t : Fin cfg0.N) : t.val < 16 := lt_of_lt_of_eq t.isLt N_0

/-- The sequence of point `t`'s block. -/
def seq (t : Fin cfg0.N) : Fin 4 := ⟨t.val / 4, by have := lt_16 t; omega⟩
/-- Row `r` of point `t`'s block within its sequence. -/
def row (t : Fin cfg0.N) (r : Fin 512) : Fin 2048 := ⟨t.val % 4 * 512 + r.val, by omega⟩

/-- The two wide windows' buffers hold rows of the two arrays. -/
theorem stream_block (c : Dev nD) (t : Fin cfg0.N) (r : Fin 512) (k : Fin 4096) :
    (X0_0 m c t : Vec Ideal S1x512x4096 .f32) (ix3 0 r k) = m ((c : Thread nD τ).loc main_arg0) (ix3 (seq t) (tok (row t r)) k) := by
  obtain ⟨p, -, -, -, -⟩ := places t
  rw [← V_main_arg0 m c]
  unfold X0_0 Pipeline.Window.fill
  rw [dif_pos (moved0_0 t _)]
  show V m c main_arg0 _ = V m c main_arg0 _
  congr 1
  funext a
  apply Fin.ext
  match a with
  | ⟨0, _⟩ => show win0_0.index t 0 * 1 + 1 * 0 = t.val / 4; rw [p]; show t.val / 4 * 1 + 1 * 0 = _; omega
  | ⟨1, _⟩ => show win0_0.index t 1 * 512 + 1 * r.val = t.val % 4 * 512 + r.val; rw [p]; show t.val % 4 * 512 + 1 * r.val = _; omega
  | ⟨2, _⟩ => show win0_0.index t 2 * 4096 + 1 * k.val = k.val; rw [p]; show 0 * 4096 + 1 * k.val = _; omega

theorem product_block (c : Dev nD) (t : Fin cfg0.N) (r : Fin 512) (k : Fin 4096) :
    (X0_1 m c t : Vec Ideal S1x512x4096 .bf16) (ix3 0 r k) = m ((c : Thread nD τ).loc main_arg1) (ix3 (seq t) (tok (row t r)) k) := by
  obtain ⟨-, p, -, -, -⟩ := places t
  rw [← V_main_arg1 m c]
  unfold X0_1 Pipeline.Window.fill
  rw [dif_pos (moved0_1 t _)]
  show V m c main_arg1 _ = V m c main_arg1 _
  congr 1
  funext a
  apply Fin.ext
  match a with
  | ⟨0, _⟩ => show win0_1.index t 0 * 1 + 1 * 0 = t.val / 4; rw [p]; show t.val / 4 * 1 + 1 * 0 = _; omega
  | ⟨1, _⟩ => show win0_1.index t 1 * 512 + 1 * r.val = t.val % 4 * 512 + r.val; rw [p]; show t.val % 4 * 512 + 1 * r.val = _; omega
  | ⟨2, _⟩ => show win0_1.index t 2 * 4096 + 1 * k.val = k.val; rw [p]; show 0 * 4096 + 1 * k.val = _; omega

theorem gain_block (c : Dev nD) (t : Fin cfg0.N) (j : Fin 4096) :
    (iblk m c 2 t : Vec Ideal S1x4096 .f32) (ix2 0 j) = m ((c : Thread nD τ).loc main_arg2) (ix1 j) := by
  obtain ⟨-, -, p, -, -⟩ := places t
  rw [← gain_entry m c]
  show V m c main_v0 _ = V m c main_v0 _
  congr 1
  funext a
  apply Fin.ext
  match a with
  | ⟨0, _⟩ => show win0_2.index t 0 * 1 + 1 * 0 = 0; rw [p]; rfl
  | ⟨1, _⟩ => show win0_2.index t 1 * 4096 + 1 * j.val = j.val; rw [p]; show 0 * 4096 + 1 * j.val = _; omega

theorem offset_block (c : Dev nD) (t : Fin cfg0.N) (j : Fin 4096) :
    (iblk m c 3 t : Vec Ideal S1x4096 .f32) (ix2 0 j) = m ((c : Thread nD τ).loc main_arg3) (ix1 j) := by
  obtain ⟨-, -, -, p, -⟩ := places t
  rw [← offset_entry m c]
  show V m c main_v1 _ = V m c main_v1 _
  congr 1
  funext a
  apply Fin.ext
  match a with
  | ⟨0, _⟩ => show win0_3.index t 0 * 1 + 1 * 0 = 0; rw [p]; rfl
  | ⟨1, _⟩ => show win0_3.index t 1 * 4096 + 1 * j.val = j.val; rw [p]; show 0 * 4096 + 1 * j.val = _; omega

/-- What grid point `t` writes back is block `t` of `G`. -/
theorem flushed (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2))
        (m ((c : Thread nD τ).loc main_arg3))) := by
  obtain ⟨-, -, -, -, p⟩ := places t
  rw [Value.flushed4_A]
  refine funext fun (y : S1x512x4096.Idx) => ?_
  have place : ((cfg0.win 4).blk t).view.emb y = (ix3 (seq t) (row t (y 1)) (y 2) : S4x2048x4096.Idx) := by
    have y0 : (y 0).val = 0 := by have : (y 0).val < 1 := (y 0).isLt; omega
    funext a
    apply Fin.ext
    match a with
    | ⟨0, _⟩ => show win0_4.index t 0 * 1 + 1 * (y 0).val = t.val / 4; rw [p, y0]; show t.val / 4 * 1 + 1 * 0 = _; omega
    | ⟨1, _⟩ => show win0_4.index t 1 * 512 + 1 * (y 1).val = t.val % 4 * 512 + (y 1).val; rw [p]; show t.val % 4 * 512 + 1 * (y 1).val = _; omega
    | ⟨2, _⟩ => show win0_4.index t 2 * 4096 + 1 * (y 2).val = (y 2).val; rw [p]; show 0 * 4096 + 1 * (y 2).val = _; omega
  show out0_A_4 _ _ _ _ _ _ _ _ _ _ _ _ _ _ _ _ y = G (m ((c : Thread nD τ).loc main_arg0)) (m ((c : Thread nD τ).loc main_arg1)) (m ((c : Thread nD τ).loc main_arg2))
        (m ((c : Thread nD τ).loc main_arg3)) (((cfg0.win 4).blk t).view.emb y)
  rw [place, out_apply]
  have u : (fun k => scaled ((X0_0 m c t : Vec Ideal S1x512x4096 .f32) (ix3 0 (y 1) k)) ((X0_1 m c t : Vec Ideal S1x512x4096 .bf16) (ix3 0 (y 1) k)))
      = fun k => scaled (m ((c : Thread nD τ).loc main_arg0) (ix3 (seq t) (tok (row t (y 1))) k)) (m ((c : Thread nD τ).loc main_arg1) (ix3 (seq t) (tok (row t (y 1))) k)) :=
    funext fun k => congrArg₂ scaled (stream_block m c t (y 1) k) (product_block m c t (y 1) k)
  show normed (fun k => scaled ((X0_0 m c t : Vec Ideal S1x512x4096 .f32) (ix3 0 (y 1) k)) ((X0_1 m c t : Vec Ideal S1x512x4096 .bf16) (ix3 0 (y 1) k)))
    _ _ (y 2) = normed (fun k => scaled _ _) _ _ (y 2)
  rw [u]
  exact congrArg₂ (fun g b => normed _ g b (y 2)) (gain_block m c t (y 2)) (offset_block m c t (y 2))

/-- The grid point whose block holds element `i`. -/
def point (i : S4x2048x4096.Idx) : Fin cfg0.N :=
  ⟨4 * (i 0).val + (i 1).val / 512, by
    have h0 : (i 0).val < 4 := (i 0).isLt
    have h1 : (i 1).val < 2048 := (i 1).isLt
    show _ < grid0.N
    rw [N_0]
    omega⟩

/-- Every element of the array lies in the block of some grid point. -/
theorem covered (i : S4x2048x4096.Idx) : ∃ t : Fin cfg0.N, (cfg0.win 4).flush t = true ∧ i ∈ ((cfg0.win 4).blk t).view.set := by
  have h0 : (i 0).val < 4 := (i 0).isLt
  have h1 : (i 1).val < 2048 := (i 1).isLt
  have h2 : (i 2).val < 4096 := (i 2).isLt
  refine ⟨point i, flush0_4 _, ?_⟩
  obtain ⟨-, -, -, -, p⟩ := places (point i)
  have e : (point i).val = 4 * (i 0).val + (i 1).val / 512 := rfl
  generalize point i = t at p e ⊢
  show i ∈ ((View.whole main_v2).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [p]
    show t.val / 4 * 1 ≤ (i 0).val ∧ (i 0).val < t.val / 4 * 1 + 1
    omega
  | ⟨1, _⟩ =>
    show win0_4.index t 1 * 512 ≤ (i 1).val ∧ (i 1).val < win0_4.index t 1 * 512 + 512
    rw [p]
    show t.val % 4 * 512 ≤ (i 1).val ∧ (i 1).val < t.val % 4 * 512 + 512
    omega
  | ⟨2, _⟩ =>
    show win0_4.index t 2 * 4096 ≤ (i 2).val ∧ (i 2).val < win0_4.index t 2 * 4096 + 4096
    rw [p]
    show 0 * 4096 ≤ (i 2).val ∧ (i 2).val < 0 * 4096 + 4096
    omega

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 _ (fun t _ => flushed m c t) covered), (h c).2⟩)
    (Value.run_blocks m ρ)

section
open Cert.ReferenceNIdeal.Read

theorem zero_word : (FloatOps.ofBits .f32 0x00000000#32 : Ideal .f32) = (0 : EReal) := by
  show Ideal.ofBits .f32 0x00000000#32 = 0
  simp [Ideal.ofBits, Ideal.ieee]

variable (h : Vec Ideal S4x2064x4096 .f32) (r : Vec Ideal S4x2064x4096 .bf16) (g b : Vec Ideal S4096 .f32)

/-- Row `t` of sequence `n` of the residual sum. -/
def line (n : Fin 4) (t : Fin 2064) : Fin 4096 → EReal := fun k => scaled (h (ix3 n t k)) (r (ix3 n t k))

theorem reference_sum (n : Fin 4) (t : Fin 2064) (k : Fin 4096) :
    val_main_v3 (F := Ideal) h r (ix3 n t k) = line h r n t k := by
  rw [val_main_v3_apply, val_main_v2_apply, val_main_v1_apply, val_main_v0_apply, val_main_cst_apply]
  rfl

theorem reference_mean (n : Fin 4) (t : Fin 2064) :
    val_main_v7 (F := Ideal) h r (ix3 n t 0) = mean (line h r n t) := by
  rw [val_main_v7_apply, val_main_v6_apply, val_main_cst_1_apply, val_main_v5_apply, val_main_v4_apply, val_main_cst_0_apply, zero_word, zero_add]
  refine congrArg₂ Ideal.div (Finset.sum_congr rfl fun k _ => ?_) rfl
  refine Eq.trans (congrArg _ ?_) (reference_sum h r n t k)
  funext a; fin_cases a <;> rfl

theorem reference_variance (n : Fin 4) (t : Fin 2064) :
    val_main_v14 (F := Ideal) h r (ix3 n t 0)
      = mean (fun x => (line h r n t x - mean (line h r n t)) * (line h r n t x - mean (line h r n t))) := by
  rw [val_main_v14_apply, val_main_v13_apply, val_main_cst_3_apply, val_main_v12_apply, val_main_v11_apply, val_main_cst_2_apply, zero_word, zero_add]
  refine congrArg₂ Ideal.div (Finset.sum_congr rfl fun k _ => ?_) rfl
  have e : idx_main_v11 (idx_main_v12 (ix3 n t 0)) k = (ix3 n t k : S4x2064x4096.Idx) := by funext a; fin_cases a <;> rfl
  have e' : idx_main_v8 (ix3 n t k) = (ix3 n t 0 : Cert.ReferenceNIdeal.S4x2064x1.Idx) := by funext a; fin_cases a <;> rfl
  rw [e, val_main_v10_apply, val_main_v9_apply, val_main_v8_apply, e', reference_mean, reference_sum]
  rfl

theorem reference_at (n : Fin 4) (t : Fin 2048) (k : Fin 4096) :
    val_main_v28 (F := Ideal) h r g b (ix3 n t k) = normed (line h r n (tok t)) (g (ix1 k)) (b (ix1 k)) k := by
  have e : idx_main_v28 (ix3 n t k) = (ix3 n (tok t) k : S4x2064x4096.Idx) := by funext a; fin_cases a <;> rfl
  have e15 : idx_main_v15 (ix3 n (tok t) k) = (ix3 n (tok t) 0 : Cert.ReferenceNIdeal.S4x2064x1.Idx) := by funext a; fin_cases a <;> rfl
  have e20 : idx_main_v20 (ix3 n (tok t) k) = (ix3 n (tok t) 0 : Cert.ReferenceNIdeal.S4x2064x1.Idx) := by funext a; fin_cases a <;> rfl
  have eg : idx_main_v22 (idx_main_v23 (ix3 n (tok t) k)) = (ix1 k : S4096.Idx) := by funext a; fin_cases a; rfl
  have eb : idx_main_v25 (idx_main_v26 (ix3 n (tok t) k)) = (ix1 k : S4096.Idx) := by funext a; fin_cases a; rfl
  rw [val_main_v28_apply, e, val_main_v27_apply, val_main_v26_apply, val_main_v25_apply, eb, val_main_v24_apply, val_main_v23_apply,
    val_main_v22_apply, eg, val_main_v21_apply, val_main_v20_apply, e20, val_main_v19_apply, val_main_v18_apply, val_main_v17_apply,
    val_main_cst_4_apply, val_main_v16_apply, val_main_v15_apply, e15, reference_mean, reference_variance, reference_sum]
  rfl

/-- The reference's array is `G` of the same arguments. -/
theorem reference_value : val_main_v28 (F := Ideal) h r g b = G h r g b := by
  funext i
  have e : i = (ix3 (i 0) (i 1) (i 2) : S4x2048x4096.Idx) := by funext a; fin_cases a <;> rfl
  exact (congrArg _ e).trans (reference_at h r g b (i 0) (i 1) (i 2))

end

end Cert.KernelNIdeal.Hand

end
-- ==== Proof.ClaimsN.lean ====
-- The claims about the last layer normalization.
module

public import proofs.«01_k».proof.Defs
public import proofs.«01_k».proof.Proof.Gen.KernelN
public import proofs.«01_k».proof.Proof.Norm

@[expose] public section

noncomputable section

namespace Cert.Proof

open Idealize.ShloMosaic Idealize.SL.Sem

/-- The kernel and its idealized text have the same body, at any float values. -/
theorem bodiesN : Cert.KernelN.defs₀ (F := Bits) = Cert.KernelNIdeal.defs₀ := by
  unfold Cert.KernelN.defs₀ Cert.KernelNIdeal.defs₀
  refine congrArg _ ?_
  funext l p
  match l, p with
  | 0, (t, s) => rfl

theorem callsN : Cert.KernelN.defs (F := Bits) = Cert.KernelNIdeal.defs :=
  congrArg (Pipeline.defs _) bodiesN

/-- The kernel over the chip's words keeps its arguments: its text is the idealized kernel's. -/
theorem frame_kernelN : Cert.quiescent_KernelN := fun m ρ _ => by
  rw [callsN]
  exact Cert.KernelNIdeal.Gen.frame (F := Bits) m ρ

theorem frame_kernelN_ideal : Cert.quiescent_KernelNIdeal := fun m ρ _ =>
  Cert.KernelNIdeal.Gen.frame (F := Ideal) m ρ

theorem frame_referenceN : Cert.quiescent_ReferenceNIdeal := fun m ρ _ =>
  (θ_run Cert.ReferenceNIdeal.defs _ _).mono (fun r h => ⟨fun c => (h c).2, sem_eq_zero_of_no_sems (by decide) r.2⟩)
    (Cert.ReferenceNIdeal.Value.run (F := Ideal) m ρ)

/-- Kernel and reference end with the same array, one function of the arguments. -/
theorem algebraicN : Cert.algebraic_KernelNIdeal_ReferenceNIdeal := by
  intro m ρ m' ρ' _ agree
  refine ⟨_, Cert.KernelNIdeal.Hand.run m ρ, ?_⟩
  refine (θ_run Cert.ReferenceNIdeal.defs _ _).mono (fun _ h => fun c => ⟨(h c).1.trans ?_, (h c).2⟩)
    (Cert.ReferenceNIdeal.Value.run (F := Ideal) m' ρ')
  obtain ⟨e0, e1, e2, e3⟩ := agree c
  rw [e0, e1, e2, e3]
  exact Cert.KernelNIdeal.Hand.reference_value _ _ _ _

end Cert.Proof

end
-- ==== Proof.ProjV.lean ====
/- The projection of layer 1 onto its values: what one grid point computes, what the array holds after the run, what
   the reference computes, and that the two are one array over the extended reals. -/
module

public import proofs.«01_k».proof.Proof.Gen.KernelVIdeal.Value
public import proofs.«01_k».proof.Proof.Gen.ReferenceVIdeal.Run
public import proofs.«01_k».proof.Proof.Gen.ReferenceVIdeal.Read
public import Idealize.ShloMosaic.Lib.Pointwise
public import Idealize.ShloMosaic.Lib.Quiescent

@[expose] public section

noncomputable section

namespace Cert.KernelVIdeal.Hand

open Cert.KernelVIdeal Cert.KernelVIdeal.Gen Idealize.ShloMosaic Idealize.ShloMosaic.TcCoe Idealize.SL.Sem

theorem hz : (![0, 0] : Fin 2 → Nat) = fun _ => 0 := funext fun a => by fin_cases a <;> rfl

/-- One element of what a grid point stores: the sum over the 4096 inputs. -/
theorem out_apply (x0 : Vec Ideal S1376x4096 .bf16) (x1 : Vec Ideal S4096x512 .f32) (j : S1376x512.Idx) :
    out0_2 x0 x1 j = ∑ k : Fin 4096, x0 (ix2 (j 0) k) * x1 (ix2 k (j 1)) := by
  unfold out0_2
  rw [View.canon_unit_zero hz]
  unfold k0_pay1
  simp only [View.ld_unit_zero (S := S1376x4096) hz, View.ld_unit_zero (S := S4096x512) hz]
  pointwise

variable (m : (ℓ : Loc nD τ sig) → Buf (Elt Ideal) ℓ) (ρ : Dev nD → PrngReg)

/-- The array after the run, as one function of the two arguments. -/
def G (a : Vec Ideal S8256x4096 .bf16) (w : Vec Ideal S4096x24576 .f32) : Vec Ideal S8256x8192 .bf16 :=
  fun i => ∑ k : Fin 4096, a (ix2 (i 0) k) * w (ix2 k ⟨8192 + (i 1).val, by have : (i 1).val < 8192 := (i 1).isLt; omega⟩)

/-- Where each window's block lies at grid point `t`. -/
theorem places : ∀ t : Fin cfg0.N, win0_0.index t = ![t.val / 16, 0] ∧ win0_1.index t = ![0, 16 + t.val % 16]
    ∧ win0_2.index t = ![t.val / 16, t.val % 16] :=
  (by decide +kernel : ∀ t : Fin grid0.N, _)

theorem lt_96 (t : Fin cfg0.N) : t.val < 96 := lt_of_lt_of_eq t.isLt N_0

/-- Row `r` of the activations' block at point `t`. -/
def row (t : Fin cfg0.N) (r : Fin 1376) : Fin 8256 := ⟨t.val / 16 * 1376 + r.val, by have := lt_96 t; omega⟩
/-- Column `j` of the output's block at point `t`. -/
def col (t : Fin cfg0.N) (j : Fin 512) : Fin 8192 := ⟨t.val % 16 * 512 + j.val, by omega⟩

theorem act_block (c : Dev nD) (t : Fin cfg0.N) (r : Fin 1376) (k : Fin 4096) :
    (iblk m c 0 t : Vec Ideal S1376x4096 .bf16) (ix2 r k) = m ((c : Thread nD τ).loc main_arg0) (ix2 (row t r) k) := by
  obtain ⟨p0, -, -⟩ := places t
  rw [← V_main_arg0 m c]
  show V m c main_arg0 _ = V m c main_arg0 _
  congr 1
  funext a
  apply Fin.ext
  match a with
  | ⟨0, _⟩ => show win0_0.index t 0 * 1376 + 1 * r.val = t.val / 16 * 1376 + r.val; rw [p0]; show t.val / 16 * 1376 + 1 * r.val = _; omega
  | ⟨1, _⟩ => show win0_0.index t 1 * 4096 + 1 * k.val = k.val; rw [p0]; show 0 * 4096 + 1 * k.val = _; omega

theorem weight_block (c : Dev nD) (t : Fin cfg0.N) (k : Fin 4096) (j : Fin 512) :
    (iblk m c 1 t : Vec Ideal S4096x512 .f32) (ix2 k j)
      = m ((c : Thread nD τ).loc main_arg1) (ix2 k ⟨8192 + (col t j).val, by have := (col t j).isLt; omega⟩) := by
  obtain ⟨-, p1, -⟩ := places t
  rw [← V_main_arg1 m c]
  show V m c main_arg1 _ = V m c main_arg1 _
  congr 1
  funext a
  apply Fin.ext
  match a with
  | ⟨0, _⟩ => show win0_1.index t 0 * 4096 + 1 * k.val = k.val; rw [p1]; show 0 * 4096 + 1 * k.val = _; omega
  | ⟨1, _⟩ =>
    show win0_1.index t 1 * 512 + 1 * j.val = 8192 + (t.val % 16 * 512 + j.val)
    rw [p1]; show (16 + t.val % 16) * 512 + 1 * j.val = _; omega

/-- What grid point `t` writes back is block `t` of `G`. -/
theorem flushed (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨-, -, p2⟩ := places t
  rw [Value.flushed2]
  refine funext fun (y : S1376x512.Idx) => ?_
  have place : ((cfg0.win 2).blk t).view.emb y = (ix2 (row t (y 0)) (col t (y 1)) : S8256x8192.Idx) := by
    funext a
    apply Fin.ext
    match a with
    | ⟨0, _⟩ => show win0_2.index t 0 * 1376 + 1 * (y 0).val = t.val / 16 * 1376 + (y 0).val; rw [p2]; show t.val / 16 * 1376 + 1 * (y 0).val = _; omega
    | ⟨1, _⟩ => show win0_2.index t 1 * 512 + 1 * (y 1).val = t.val % 16 * 512 + (y 1).val; rw [p2]; show t.val % 16 * 512 + 1 * (y 1).val = _; omega
  show out0_2 _ _ y = G (m ((c : Thread nD τ).loc main_arg0)) (m ((c : Thread nD τ).loc main_arg1)) (((cfg0.win 2).blk t).view.emb y)
  rw [place]
  exact (out_apply _ _ y).trans
    (Finset.sum_congr rfl fun k _ => congrArg₂ (· * ·) (act_block m c t (y 0) k) (weight_block m c t k (y 1)))

/-- The grid point whose block holds element `i`. -/
def point (i : S8256x8192.Idx) : Fin cfg0.N :=
  ⟨16 * ((i 0).val / 1376) + (i 1).val / 512, by
    have h0 : (i 0).val < 8256 := (i 0).isLt
    have h1 : (i 1).val < 8192 := (i 1).isLt
    show _ < grid0.N
    rw [N_0]
    omega⟩

/-- Every element of the array lies in the block of some grid point. -/
theorem covered (i : S8256x8192.Idx) : ∃ t : Fin cfg0.N, (cfg0.win 2).flush t = true ∧ i ∈ ((cfg0.win 2).blk t).view.set := by
  have h0 : (i 0).val < 8256 := (i 0).isLt
  have h1 : (i 1).val < 8192 := (i 1).isLt
  refine ⟨point i, flush0_2 _, ?_⟩
  obtain ⟨-, -, p2⟩ := places (point i)
  have e : (point i).val = 16 * ((i 0).val / 1376) + (i 1).val / 512 := rfl
  generalize point i = t at p2 e ⊢
  show i ∈ ((View.whole main_v0).slice (win0_2.rect t)).set
  rw [View.set_slice_whole, Rect.mem_set_unit]
  intro a
  match a with
  | ⟨0, _⟩ =>
    show win0_2.index t 0 * 1376 ≤ (i 0).val ∧ (i 0).val < win0_2.index t 0 * 1376 + 1376
    rw [p2]
    show t.val / 16 * 1376 ≤ (i 0).val ∧ (i 0).val < t.val / 16 * 1376 + 1376
    omega
  | ⟨1, _⟩ =>
    show win0_2.index t 1 * 512 ≤ (i 1).val ∧ (i 1).val < win0_2.index t 1 * 512 + 512
    rw [p2]
    show t.val % 16 * 512 ≤ (i 1).val ∧ (i 1).val < t.val % 16 * 512 + 512
    omega

/-- The array after the run is `G` of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed m c t) covered

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's array is `G` of the same arguments. -/
theorem reference_value (a : Vec Ideal S8256x4096 .bf16) (w : Vec Ideal S4096x24576 .f32) :
    Cert.ReferenceVIdeal.Read.val_main_v3 (F := Ideal) a w = G a w := by
  open Cert.ReferenceVIdeal.Read in
  funext i
  rw [val_main_v3_apply, val_main_v2_apply]
  refine Finset.sum_congr rfl fun k _ => ?_
  rw [val_main_v0_apply, val_main_v1_apply]
  refine congrArg₂ (· * ·) (congrArg a ?_) (congrArg w ?_) <;> funext d <;> fin_cases d <;> rfl

end Cert.KernelVIdeal.Hand

end
-- ==== Proof.ClaimsV.lean ====
-- The claims about the value projection of layer 1.
module

public import proofs.«01_k».proof.Defs
public import proofs.«01_k».proof.Proof.Gen.KernelV
public import proofs.«01_k».proof.Proof.ProjV

@[expose] public section

noncomputable section

namespace Cert.Proof

open Idealize.ShloMosaic Idealize.SL.Sem

/-- The kernel and its idealized text have the same body, at any float values. -/
theorem bodiesV : Cert.KernelV.defs₀ (F := Bits) = Cert.KernelVIdeal.defs₀ := by
  unfold Cert.KernelV.defs₀ Cert.KernelVIdeal.defs₀
  refine congrArg _ ?_
  funext l p
  match l, p with
  | 0, (t, s) => rfl

theorem callsV : Cert.KernelV.defs (F := Bits) = Cert.KernelVIdeal.defs :=
  congrArg (Pipeline.defs _) bodiesV

/-- The kernel over the chip's words keeps its arguments: its text is the idealized kernel's. -/
theorem frame_kernelV : Cert.quiescent_KernelV := fun m ρ _ => by
  rw [callsV]
  exact Cert.KernelVIdeal.Gen.frame (F := Bits) m ρ

theorem frame_kernelV_ideal : Cert.quiescent_KernelVIdeal := fun m ρ _ =>
  Cert.KernelVIdeal.Gen.frame (F := Ideal) m ρ

theorem frame_referenceV : Cert.quiescent_ReferenceVIdeal := fun m ρ _ =>
  (θ_run Cert.ReferenceVIdeal.defs _ _).mono (fun r h => ⟨fun c => (h c).2, sem_eq_zero_of_no_sems (by decide) r.2⟩)
    (Cert.ReferenceVIdeal.Value.run (F := Ideal) m ρ)

/-- Kernel and reference end with the same array, one function of the arguments. -/
theorem algebraicV : Cert.algebraic_KernelVIdeal_ReferenceVIdeal := by
  intro m ρ m' ρ' _ agree
  refine ⟨_, Cert.KernelVIdeal.Hand.run m ρ, ?_⟩
  refine (θ_run Cert.ReferenceVIdeal.defs _ _).mono (fun _ h => fun c => ⟨(h c).1.trans ?_, (h c).2⟩)
    (Cert.ReferenceVIdeal.Value.run (F := Ideal) m' ρ')
  obtain ⟨e0, e1⟩ := agree c
  rw [e0, e1]
  exact Cert.KernelVIdeal.Hand.reference_value _ _

end Cert.Proof

end
-- ==== Proof.ProjQ.lean ====
/- The projection of layer 0 onto its queries: what one grid point computes, what the array holds after the run, what
   the reference computes, and that the two are one array over the extended reals. -/
module

public import proofs.«01_k».proof.Proof.Gen.KernelQIdeal.Value
public import proofs.«01_k».proof.Proof.Gen.ReferenceQIdeal.Run
public import proofs.«01_k».proof.Proof.Gen.ReferenceQIdeal.Read
public import proofs.«01_k».proof.Proof.Sigmoid
public import Idealize.ShloMosaic.Lib.Pointwise
public import Idealize.ShloMosaic.Lib.Quiescent

@[expose] public section

noncomputable section

namespace Cert.KernelQIdeal.Hand

open Cert.KernelQIdeal Cert.KernelQIdeal.Gen Idealize.ShloMosaic Idealize.ShloMosaic.TcCoe Idealize.SL.Sem

theorem hz : (![0, 0] : Fin 2 → Nat) = fun _ => 0 := funext fun a => by fin_cases a <;> rfl

/-- One output element: the SiLU of a product's element. -/
def silu (s : EReal) : EReal := s * Ideal.logistic s

/-- One element of what a grid point stores: the SiLU of the sum over the 4096 inputs. -/
theorem out_apply (x0 : Vec Ideal S1376x4096 .bf16) (x1 : Vec Ideal S4096x512 .f32) (j : S1376x512.Idx) :
    out0_2 x0 x1 j = silu (∑ k : Fin 4096, x0 (ix2 (j 0) k) * x1 (ix2 k (j 1))) := by
  unfold out0_2
  rw [View.canon_unit_zero hz]
  unfold k0_pay1
  simp only [View.ld_unit_zero (S := S1376x4096) hz, View.ld_unit_zero (S := S4096x512) hz]
  pointwise
  unfold silu
  rw [← Cert.Math.half_tanh]

variable (m : (ℓ : Loc nD τ sig) → Buf (Elt Ideal) ℓ) (ρ : Dev nD → PrngReg)

/-- The array after the run, as one function of the two arguments. -/
def G (a : Vec Ideal S8256x4096 .bf16) (w : Vec Ideal S4096x32768 .f32) : Vec Ideal S8256x8192 .bf16 :=
  fun i => silu (∑ k : Fin 4096, a (ix2 (i 0) k) * w (ix2 k ⟨(i 1).val, by have : (i 1).val < 8192 := (i 1).isLt; omega⟩))

/-- Where each window's block lies at grid point `t`. -/
theorem places : ∀ t : Fin cfg0.N, win0_0.index t = ![t.val / 16, 0] ∧ win0_1.index t = ![0, t.val % 16]
    ∧ win0_2.index t = ![t.val / 16, t.val % 16] :=
  (by decide +kernel : ∀ t : Fin grid0.N, _)

theorem lt_96 (t : Fin cfg0.N) : t.val < 96 := lt_of_lt_of_eq t.isLt N_0

/-- Row `r` of the activations' block at point `t`. -/
def row (t : Fin cfg0.N) (r : Fin 1376) : Fin 8256 := ⟨t.val / 16 * 1376 + r.val, by have := lt_96 t; omega⟩
/-- Column `j` of the output's block at point `t`. -/
def col (t : Fin cfg0.N) (j : Fin 512) : Fin 8192 := ⟨t.val % 16 * 512 + j.val, by omega⟩

theorem act_block (c : Dev nD) (t : Fin cfg0.N) (r : Fin 1376) (k : Fin 4096) :
    (iblk m c 0 t : Vec Ideal S1376x4096 .bf16) (ix2 r k) = m ((c : Thread nD τ).loc main_arg0) (ix2 (row t r) k) := by
  obtain ⟨p0, -, -⟩ := places t
  rw [← V_main_arg0 m c]
  show V m c main_arg0 _ = V m c main_arg0 _
  congr 1
  funext a
  apply Fin.ext
  match a with
  | ⟨0, _⟩ => show win0_0.index t 0 * 1376 + 1 * r.val = t.val / 16 * 1376 + r.val; rw [p0]; show t.val / 16 * 1376 + 1 * r.val = _; omega
  | ⟨1, _⟩ => show win0_0.index t 1 * 4096 + 1 * k.val = k.val; rw [p0]; show 0 * 4096 + 1 * k.val = _; omega

theorem weight_block (c : Dev nD) (t : Fin cfg0.N) (k : Fin 4096) (j : Fin 512) :
    (iblk m c 1 t : Vec Ideal S4096x512 .f32) (ix2 k j)
      = m ((c : Thread nD τ).loc main_arg1) (ix2 k ⟨(col t j).val, by have := (col t j).isLt; omega⟩) := by
  obtain ⟨-, p1, -⟩ := places t
  rw [← V_main_arg1 m c]
  show V m c main_arg1 _ = V m c main_arg1 _
  congr 1
  funext a
  apply Fin.ext
  match a with
  | ⟨0, _⟩ => show win0_1.index t 0 * 4096 + 1 * k.val = k.val; rw [p1]; show 0 * 4096 + 1 * k.val = _; omega
  | ⟨1, _⟩ =>
    show win0_1.index t 1 * 512 + 1 * j.val = t.val % 16 * 512 + j.val
    rw [p1]; show t.val % 16 * 512 + 1 * j.val = _; omega

/-- What grid point `t` writes back is block `t` of `G`. -/
theorem flushed (c : Dev nD) (t : Fin cfg0.N) :
    (dats m 0 c).flushed 2 t = ((cfg0.win 2).blk t).view.read (Elt Ideal)
      (G (m ((c : Thread nD τ).loc main_arg0)) (m ((c : Thread nD τ).loc main_arg1))) := by
  obtain ⟨-, -, p2⟩ := places t
  rw [Value.flushed2]
  refine funext fun (y : S1376x512.Idx) => ?_
  have place : ((cfg0.win 2).blk t).view.emb y = (ix2 (row t (y 0)) (col t (y 1)) : S8256x8192.Idx) := by
    funext a
    apply Fin.ext
    match a with
    | ⟨0, _⟩ => show win0_2.index t 0 * 1376 + 1 * (y 0).val = t.val / 16 * 1376 + (y 0).val; rw [p2]; show t.val / 16 * 1376 + 1 * (y 0).val = _; omega
    | ⟨1, _⟩ => show win0_2.index t 1 * 512 + 1 * (y 1).val = t.val % 16 * 512 + (y 1).val; rw [p2]; show t.val % 16 * 512 + 1 * (y 1).val = _; omega
  show out0_2 _ _ y = G (m ((c : Thread nD τ).loc main_arg0)) (m ((c : Thread nD τ).loc main_arg1)) (((cfg0.win 2).blk t).view.emb y)
  rw [place]
  exact (out_apply _ _ y).trans (congrArg silu
    (Finset.sum_congr rfl fun k _ => congrArg₂ (· * ·) (act_block m c t (y 0) k) (weight_block m c t k (y 1))))

/-- The grid point whose block holds element `i`. -/
def point (i : S8256x8192.Idx) : Fin cfg0.N :=
  ⟨16 * ((i 0).val / 1376) + (i 1).val / 512, by
    have h0 : (i 0).val < 8256 := (i 0).isLt
    have h1 : (i 1).val < 8192 := (i 1).isLt
    show _ < grid0.N
    rw [N_0]
    omega⟩

/-- Every element of the array lies in the block of some grid point. -/
theorem covered (i : S8256x8192.Idx) : ∃ t : Fin cfg0.N, (cfg0.win 2).flush t = true ∧ i ∈ ((cfg0.win 2).blk t).view.set := by
  have h0 : (i 0).val < 8256 := (i 0).isLt
  have h1 : (i 1).val < 8192 := (i 1).isLt
  refine ⟨point i, flush0_2 _, ?_⟩
  obtain ⟨-, -, p2⟩ := places (point i)
  have e : (point i).val = 16 * ((i 0).val / 1376) + (i 1).val / 512 := rfl
  generalize point i = t at p2 e ⊢
  show i ∈ ((View.whole main_v0).slice (win0_2.rect t)).set
  rw [View.set_slice_whole, Rect.mem_set_unit]
  intro a
  match a with
  | ⟨0, _⟩ =>
    show win0_2.index t 0 * 1376 ≤ (i 0).val ∧ (i 0).val < win0_2.index t 0 * 1376 + 1376
    rw [p2]
    show t.val / 16 * 1376 ≤ (i 0).val ∧ (i 0).val < t.val / 16 * 1376 + 1376
    omega
  | ⟨1, _⟩ =>
    show win0_2.index t 1 * 512 ≤ (i 1).val ∧ (i 1).val < win0_2.index t 1 * 512 + 512
    rw [p2]
    show t.val % 16 * 512 ≤ (i 1).val ∧ (i 1).val < t.val % 16 * 512 + 512
    omega

/-- The array after the run is `G` of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed m c t) covered

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

/-- The reference's array is `G` of the same arguments. -/
theorem reference_value (a : Vec Ideal S8256x4096 .bf16) (w : Vec Ideal S4096x32768 .f32) :
    Cert.ReferenceQIdeal.Read.val_main_v4 (F := Ideal) a w = G a w := by
  open Cert.ReferenceQIdeal.Read in
  funext i
  have one : (FloatOps.ofBits .f32 0x3F800000#32 : Ideal .f32) = (1 : EReal) := by
    show Ideal.ofBits .f32 0x3F800000#32 = 1
    simp [Ideal.ofBits, Ideal.ieee, -EReal.coe_mul]
    norm_num
  have s : val_main_v2 (F := Ideal) a w i = ∑ k : Fin 4096, a (ix2 (i 0) k) * w (ix2 k ⟨(i 1).val, by have : (i 1).val < 8192 := (i 1).isLt; omega⟩) := by
    rw [val_main_v2_apply]
    refine Finset.sum_congr rfl fun k _ => ?_
    rw [val_main_v0_apply, val_main_v1_apply]
    refine congrArg₂ (· * ·) (congrArg a ?_) (congrArg w ?_) <;> funext d <;> fin_cases d <;> rfl
  rw [val_main_v4_apply, val_main_v3_apply, val_main_call0_v5_apply, val_main_call0_v4_apply, val_main_call0_cst_0_apply,
    val_main_call0_v3_apply, val_main_call0_v2_apply, val_main_call0_cst_apply, val_main_call0_v1_apply, val_main_call0_v0_apply, one, s]
  rfl

end Cert.KernelQIdeal.Hand

end
-- ==== Proof.ClaimsQ.lean ====
-- The claims about the query projection of layer 0.
module

public import proofs.«01_k».proof.Defs
public import proofs.«01_k».proof.Proof.Gen.KernelQ
public import proofs.«01_k».proof.Proof.ProjQ

@[expose] public section

noncomputable section

namespace Cert.Proof

open Idealize.ShloMosaic Idealize.SL.Sem

/-- The kernel and its idealized text have the same body, at any float values. -/
theorem bodiesQ : Cert.KernelQ.defs₀ (F := Bits) = Cert.KernelQIdeal.defs₀ := by
  unfold Cert.KernelQ.defs₀ Cert.KernelQIdeal.defs₀
  refine congrArg _ ?_
  funext l p
  match l, p with
  | 0, (t, s) => rfl

theorem callsQ : Cert.KernelQ.defs (F := Bits) = Cert.KernelQIdeal.defs :=
  congrArg (Pipeline.defs _) bodiesQ

/-- The kernel over the chip's words keeps its arguments: its text is the idealized kernel's. -/
theorem frame_kernelQ : Cert.quiescent_KernelQ := fun m ρ _ => by
  rw [callsQ]
  exact Cert.KernelQIdeal.Gen.frame (F := Bits) m ρ

theorem frame_kernelQ_ideal : Cert.quiescent_KernelQIdeal := fun m ρ _ =>
  Cert.KernelQIdeal.Gen.frame (F := Ideal) m ρ

theorem frame_referenceQ : Cert.quiescent_ReferenceQIdeal := fun m ρ _ =>
  (θ_run Cert.ReferenceQIdeal.defs _ _).mono (fun r h => ⟨fun c => (h c).2, sem_eq_zero_of_no_sems (by decide) r.2⟩)
    (Cert.ReferenceQIdeal.Value.run (F := Ideal) m ρ)

/-- Kernel and reference end with the same array, one function of the arguments. -/
theorem algebraicQ : Cert.algebraic_KernelQIdeal_ReferenceQIdeal := by
  intro m ρ m' ρ' _ agree
  refine ⟨_, Cert.KernelQIdeal.Hand.run m ρ, ?_⟩
  refine (θ_run Cert.ReferenceQIdeal.defs _ _).mono (fun _ h => fun c => ⟨(h c).1.trans ?_, (h c).2⟩)
    (Cert.ReferenceQIdeal.Value.run (F := Ideal) m' ρ')
  obtain ⟨e0, e1⟩ := agree c
  rw [e0, e1]
  exact Cert.KernelQIdeal.Hand.reference_value _ _

end Cert.Proof

end
-- ==== Proof.Blocks.lean ====
/- The blocks of the projections' arrays, and the product that a projection computes. -/
module

public import Idealize.ShloMosaic.Lib.Pointwise

@[expose] public section

noncomputable section

namespace Cert.Proj

open Idealize.ShloMosaic

/-- An element of the block number `o` of a matrix, as an element of the matrix. -/
theorem place {a b s₀ s₁ : ℕ} (i : (⟨2, ![a, b]⟩ : Shape).Idx) (o : Fin 2 → ℕ) (y : (⟨2, ![s₀, s₁]⟩ : Shape).Idx) (u v : ℕ)
    (ho : o = ![u, v]) (h : ∀ d : Fin 2, (i d).val = o d * (![s₀, s₁] : Fin 2 → ℕ) d + 1 * (y d).val) (p : Fin a) (q : Fin b)
    (hp : p.val = u * s₀ + (y 0).val) (hq : q.val = v * s₁ + (y 1).val) : i = ix2 p q := by
  subst ho
  funext d
  apply Fin.ext
  match d with
  | ⟨0, _⟩ =>
    refine (h 0).trans ?_
    show u * s₀ + 1 * (y 0).val = p.val
    omega
  | ⟨1, _⟩ =>
    refine (h 1).trans ?_
    show v * s₁ + 1 * (y 1).val = q.val
    omega

/-- The element in row `r` and column `n` of activations times weights. -/
def product {R N : ℕ} (x : (⟨2, ![R, 4096]⟩ : Shape).Idx → EReal) (w : (⟨2, ![4096, N]⟩ : Shape).Idx → EReal) (r : Fin R) (n : Fin N) : EReal :=
  ∑ k : Fin 4096, x (ix2 r k) * w (ix2 k n)

/-- The product of a block of rows and a block of columns is the product's block. -/
theorem product_block {R N R' N' : ℕ} {x : (⟨2, ![R, 4096]⟩ : Shape).Idx → EReal} {w : (⟨2, ![4096, N]⟩ : Shape).Idx → EReal}
    {x' : (⟨2, ![R', 4096]⟩ : Shape).Idx → EReal} {w' : (⟨2, ![4096, N']⟩ : Shape).Idx → EReal} {r : Fin R} {n : Fin N} {r' : Fin R'} {n' : Fin N'}
    (hx : ∀ k, x (ix2 r k) = x' (ix2 r' k)) (hw : ∀ k, w (ix2 k n) = w' (ix2 k n')) : product x w r n = product x' w' r' n' :=
  Finset.sum_congr rfl fun k _ => congrArg₂ (· * ·) (hx k) (hw k)

/-- Row `r` of the rows' block at a grid point `t` among `nb` to a block of rows. -/
def row (t nb : ℕ) (ht : t / nb < 6) (r : Fin 1376) : Fin 8256 := ⟨t / nb * 1376 + r.val, by omega⟩

/-- Column `j` of the columns' block there, and the column of the weights, which start at block `o`. -/
def col (t : ℕ) (j : Fin 512) : Fin 8192 := ⟨t % 16 * 512 + j.val, by omega⟩
@[inherit_doc col] def halfCol (t : ℕ) (j : Fin 512) : Fin 4096 := ⟨t % 8 * 512 + j.val, by omega⟩

/-- One output element of a gate path: the SiLU of a product's element, times the gain. -/
def gated (s g : EReal) : EReal := s * Ideal.logistic s * g

/-- The word of one. -/
theorem one_word : (FloatOps.ofBits .f32 0x3F800000#32 : Ideal .f32) = (1 : EReal) := by
  show Ideal.ofBits .f32 0x3F800000#32 = 1
  simp [Ideal.ofBits, Ideal.ieee, -EReal.coe_mul]
  norm_num

end Cert.Proj

end
-- ==== Proof.ProjU.lean ====
/- The projection of layer 0 onto its inputs: what one grid point computes, what the array holds after the run, what
   the reference computes, and that the two are one array over the extended reals. -/
module

public import proofs.«01_k».proof.Proof.Gen.KernelUIdeal.Value
public import proofs.«01_k».proof.Proof.Gen.ReferenceUIdeal.Run
public import proofs.«01_k».proof.Proof.Gen.ReferenceUIdeal.Read
public import proofs.«01_k».proof.Proof.Blocks
public import Idealize.ShloMosaic.Lib.Pointwise
public import Idealize.ShloMosaic.Lib.Quiescent

@[expose] public section

noncomputable section

namespace Cert.KernelUIdeal.Hand

open Cert.KernelUIdeal Cert.KernelUIdeal.Gen Cert.Proj Idealize.ShloMosaic Idealize.ShloMosaic.TcCoe Idealize.SL.Sem

theorem hz : (![0, 0] : Fin 2 → Nat) = fun _ => 0 := funext fun a => by fin_cases a <;> rfl

/-- One element of what a grid point stores. -/
theorem out_apply (x0 : Vec Ideal S1376x4096 .bf16) (x1 : Vec Ideal S4096x512 .f32) (j : S1376x512.Idx) :
    out0_2 x0 x1 j = product x0 x1 (j 0) (j 1) := by
  unfold out0_2
  rw [View.canon_unit_zero hz]
  unfold k0_pay1 product
  simp only [View.ld_unit_zero (S := S1376x4096) hz, View.ld_unit_zero (S := S4096x512) hz]
  pointwise

variable (m : (ℓ : Loc nD τ sig) → Buf (Elt Ideal) ℓ) (ρ : Dev nD → PrngReg)

/-- The weights' column for a column of the result. -/
abbrev from₀ (n : Fin 8192) : Fin 32768 := ⟨16384 + n.val, by omega⟩

/-- The array after the run, as one function of the two arguments. -/
def G (a : Vec Ideal S8256x4096 .bf16) (w : Vec Ideal S4096x32768 .f32) : Vec Ideal S8256x8192 .bf16 :=
  fun i => product a w (i 0) (from₀ (i 1))

/-- Where each window's block lies at grid point `t`. -/
theorem places : ∀ t : Fin cfg0.N, t.val / 16 < 6 ∧ win0_0.index t = ![t.val / 16, 0] ∧ win0_1.index t = ![0, 32 + t.val % 16]
    ∧ win0_2.index t = ![t.val / 16, t.val % 16] :=
  (by decide +kernel : ∀ t : Fin grid0.N, _)

theorem act_block (c : Dev nD) (t : Fin cfg0.N) (r : Fin 1376) (k : Fin 4096) :
    (iblk m c 0 t : Vec Ideal S1376x4096 .bf16) (ix2 r k) = m ((c : Thread nD τ).loc main_arg0) (ix2 (row t.val 16 (places t).1 r) k) := by
  rw [← V_main_arg0 m c]
  exact congrArg (V m c main_arg0) (place (s₀ := 1376) (s₁ := 4096) _ _ (ix2 r k) _ _ (places t).2.1 (fun _ => rfl) _ _ rfl (by show k.val = 0 * 4096 + k.val; omega))

theorem weight_block (c : Dev nD) (t : Fin cfg0.N) (k : Fin 4096) (j : Fin 512) :
    (iblk m c 1 t : Vec Ideal S4096x512 .f32) (ix2 k j) = m ((c : Thread nD τ).loc main_arg1) (ix2 k (from₀ (col t.val j))) := by
  rw [← V_main_arg1 m c]
  refine congrArg (V m c main_arg1) (place (s₀ := 4096) (s₁ := 512) _ _ (ix2 k j) _ _ (places t).2.2.1 (fun _ => rfl) _ _ ?_ ?_)
  · show k.val = 0 * 4096 + k.val
    omega
  · show 16384 + (t.val % 16 * 512 + j.val) = (32 + t.val % 16) * 512 + j.val
    omega

/-- What grid point `t` writes back is block `t` of `G`. -/
theorem flushed (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  refine funext fun (y : S1376x512.Idx) => ?_
  show out0_2 _ _ y = G (m ((c : Thread nD τ).loc main_arg0)) (m ((c : Thread nD τ).loc main_arg1)) (((cfg0.win 2).blk t).view.emb y)
  rw [show ((cfg0.win 2).blk t).view.emb y = (ix2 (row t.val 16 (places t).1 (y 0)) (col t.val (y 1)) : S8256x8192.Idx) from
    place (s₀ := 1376) (s₁ := 512) _ _ y _ _ (places t).2.2.2 (fun _ => rfl) _ _ rfl rfl]
  exact (out_apply _ _ y).trans (product_block (act_block m c t (y 0)) fun k => weight_block m c t k (y 1))

/-- Every element of the array lies in the block of some grid point. -/
theorem covered (i : S8256x8192.Idx) : ∃ t : Fin cfg0.N, (cfg0.win 2).flush t = true ∧ i ∈ ((cfg0.win 2).blk t).view.set := by
  have h0 : (i 0).val < 8256 := (i 0).isLt
  have h1 : (i 1).val < 8192 := (i 1).isLt
  obtain ⟨t, e⟩ : ∃ t : Fin cfg0.N, t.val = 16 * ((i 0).val / 1376) + (i 1).val / 512 :=
    ⟨⟨_, by show _ < grid0.N; rw [N_0]; omega⟩, rfl⟩
  refine ⟨t, flush0_2 _, ?_⟩
  show i ∈ ((View.whole main_v0).slice (win0_2.rect t)).set
  rw [View.set_slice_whole, Rect.mem_set_unit]
  intro a
  have p := congrFun (places t).2.2.2 a
  match a with
  | ⟨0, _⟩ =>
    show win0_2.index t 0 * 1376 ≤ (i 0).val ∧ (i 0).val < win0_2.index t 0 * 1376 + 1376
    change win0_2.index t 0 = t.val / 16 at p
    omega
  | ⟨1, _⟩ =>
    show win0_2.index t 1 * 512 ≤ (i 1).val ∧ (i 1).val < win0_2.index t 1 * 512 + 512
    change win0_2.index t 1 = t.val % 16 at p
    omega

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed m c t) covered), (h c).2⟩)
    (Value.run_blocks m ρ)

/-- The reference's array is `G` of the same arguments. -/
theorem reference_value (a : Vec Ideal S8256x4096 .bf16) (w : Vec Ideal S4096x32768 .f32) :
    Cert.ReferenceUIdeal.Read.val_main_v3 (F := Ideal) a w = G a w := by
  open Cert.ReferenceUIdeal.Read in
  funext i
  rw [val_main_v3_apply, val_main_v2_apply]
  unfold G product
  refine Finset.sum_congr rfl fun k _ => ?_
  rw [val_main_v0_apply, val_main_v1_apply]
  refine congrArg₂ (· * ·) (congrArg a ?_) (congrArg w ?_) <;> funext d <;> fin_cases d <;> rfl

end Cert.KernelUIdeal.Hand

end
-- ==== Proof.ClaimsU.lean ====
-- The claims about the input projection of layer 0.
module

public import proofs.«01_k».proof.Defs
public import proofs.«01_k».proof.Proof.Gen.KernelU
public import proofs.«01_k».proof.Proof.ProjU

@[expose] public section

noncomputable section

namespace Cert.Proof

open Idealize.ShloMosaic Idealize.SL.Sem

/-- The kernel and its idealized text have the same body, at any float values. -/
theorem bodiesU : Cert.KernelU.defs₀ (F := Bits) = Cert.KernelUIdeal.defs₀ := by
  unfold Cert.KernelU.defs₀ Cert.KernelUIdeal.defs₀
  refine congrArg _ ?_
  funext l p
  match l, p with
  | 0, (t, s) => rfl

theorem callsU : Cert.KernelU.defs (F := Bits) = Cert.KernelUIdeal.defs :=
  congrArg (Pipeline.defs _) bodiesU

/-- The kernel over the chip's words keeps its arguments: its text is the idealized kernel's. -/
theorem frame_kernelU : Cert.quiescent_KernelU := fun m ρ _ => by
  rw [callsU]
  exact Cert.KernelUIdeal.Gen.frame (F := Bits) m ρ

theorem frame_kernelU_ideal : Cert.quiescent_KernelUIdeal := fun m ρ _ =>
  Cert.KernelUIdeal.Gen.frame (F := Ideal) m ρ

theorem frame_referenceU : Cert.quiescent_ReferenceUIdeal := fun m ρ _ =>
  (θ_run Cert.ReferenceUIdeal.defs _ _).mono (fun r h => ⟨fun c => (h c).2, sem_eq_zero_of_no_sems (by decide) r.2⟩)
    (Cert.ReferenceUIdeal.Value.run (F := Ideal) m ρ)

/-- Kernel and reference end with the same array, one function of the arguments. -/
theorem algebraicU : Cert.algebraic_KernelUIdeal_ReferenceUIdeal := by
  intro m ρ m' ρ' _ agree
  refine ⟨_, Cert.KernelUIdeal.Hand.run m ρ, ?_⟩
  refine (θ_run Cert.ReferenceUIdeal.defs _ _).mono (fun _ h => fun c => ⟨(h c).1.trans ?_, (h c).2⟩)
    (Cert.ReferenceUIdeal.Value.run (F := Ideal) m' ρ')
  obtain ⟨e0, e1⟩ := agree c
  rw [e0, e1]
  exact Cert.KernelUIdeal.Hand.reference_value _ _

end Cert.Proof

end
-- ==== Proof.ProjY.lean ====
/- The projection of layer 0 onto its SiLU gate path: what one grid point computes, what the array holds after the run, what
   the reference computes, and that the two are one array over the extended reals. -/
module

public import proofs.«01_k».proof.Proof.Gen.KernelYIdeal.Value
public import proofs.«01_k».proof.Proof.Gen.ReferenceYIdeal.Run
public import proofs.«01_k».proof.Proof.Gen.ReferenceYIdeal.Read
public import proofs.«01_k».proof.Proof.Blocks
public import proofs.«01_k».proof.Proof.Sigmoid
public import Idealize.ShloMosaic.Lib.Pointwise
public import Idealize.ShloMosaic.Lib.Quiescent

@[expose] public section

noncomputable section

namespace Cert.KernelYIdeal.Hand

open Cert.KernelYIdeal Cert.KernelYIdeal.Gen Cert.Proj Idealize.ShloMosaic Idealize.ShloMosaic.TcCoe Idealize.SL.Sem

theorem hz : (![0, 0] : Fin 2 → Nat) = fun _ => 0 := funext fun a => by fin_cases a <;> rfl

/-- One element of what a grid point stores. -/
theorem out_apply (x0 : Vec Ideal S1376x4096 .bf16) (x1 : Vec Ideal S4096x512 .f32) (x2 : Vec Ideal S1x512 .f32) (j : S1376x512.Idx) :
    out0_3 x0 x1 x2 j = gated (product x0 x1 (j 0) (j 1)) (x2 (ix2 0 (j 1))) := by
  unfold out0_3
  rw [View.canon_unit_zero hz]
  unfold k0_pay1 product
  simp only [View.ld_unit_zero (S := S1376x4096) hz, View.ld_unit_zero (S := S4096x512) hz, View.ld_unit_zero (S := S1x512) hz]
  pointwise
  unfold gated
  rw [← Cert.Math.half_tanh]

variable (m : (ℓ : Loc nD τ sig) → Buf (Elt Ideal) ℓ) (ρ : Dev nD → PrngReg)

/-- The weights' column for a column of the result. -/
abbrev from₀ (n : Fin 8192) : Fin 32768 := ⟨24576 + n.val, by omega⟩

/-- The array after the run, as one function of the three arguments. -/
def G (a : Vec Ideal S8256x4096 .bf16) (w : Vec Ideal S4096x32768 .f32) (g : Vec Ideal S8192 .f32) : Vec Ideal S8256x8192 .bf16 :=
  fun i => gated (product a w (i 0) (from₀ (i 1))) (g (ix1 (i 1)))

/-- Where each window's block lies at grid point `t`. -/
theorem places : ∀ t : Fin cfg0.N, t.val / 16 < 6 ∧ win0_0.index t = ![t.val / 16, 0] ∧ win0_1.index t = ![0, 48 + t.val % 16]
    ∧ win0_2.index t = ![0, t.val % 16] ∧ win0_3.index t = ![t.val / 16, t.val % 16] :=
  (by decide +kernel : ∀ t : Fin grid0.N, _)

theorem act_block (c : Dev nD) (t : Fin cfg0.N) (r : Fin 1376) (k : Fin 4096) :
    (iblk m c 0 t : Vec Ideal S1376x4096 .bf16) (ix2 r k) = m ((c : Thread nD τ).loc main_arg0) (ix2 (row t.val 16 (places t).1 r) k) := by
  rw [← V_main_arg0 m c]
  exact congrArg (V m c main_arg0) (place (s₀ := 1376) (s₁ := 4096) _ _ (ix2 r k) _ _ (places t).2.1 (fun _ => rfl) _ _ rfl (by show k.val = 0 * 4096 + k.val; omega))

theorem weight_block (c : Dev nD) (t : Fin cfg0.N) (k : Fin 4096) (j : Fin 512) :
    (iblk m c 1 t : Vec Ideal S4096x512 .f32) (ix2 k j) = m ((c : Thread nD τ).loc main_arg1) (ix2 k (from₀ (col t.val j))) := by
  rw [← V_main_arg1 m c]
  refine congrArg (V m c main_arg1) (place (s₀ := 4096) (s₁ := 512) _ _ (ix2 k j) _ _ (places t).2.2.1 (fun _ => rfl) _ _ ?_ ?_)
  · show k.val = 0 * 4096 + k.val
    omega
  · show 24576 + (t.val % 16 * 512 + j.val) = (48 + t.val % 16) * 512 + j.val
    omega

/-- The region finds the gain as the one-row array that the host makes of the argument. -/
theorem gain_entry (c : Dev nD) (j : Fin 8192) :
    V m c main_v0 (ix2 (0 : Fin 1) j) = m ((c : Thread nD τ).loc main_arg2) (ix1 j) := by
  entry_read
  pointwise

theorem gain_block (c : Dev nD) (t : Fin cfg0.N) (j : Fin 512) :
    (iblk m c 2 t : Vec Ideal S1x512 .f32) (ix2 0 j) = m ((c : Thread nD τ).loc main_arg2) (ix1 (col t.val j)) := by
  rw [← gain_entry m c]
  exact congrArg (V m c main_v0) (place (s₀ := 1) (s₁ := 512) _ _ (ix2 0 j) _ _ (places t).2.2.2.1 (fun _ => rfl) _ _ rfl rfl)

/-- What grid point `t` writes back is block `t` of `G`. -/
theorem flushed (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  refine funext fun (y : S1376x512.Idx) => ?_
  show out0_3 _ _ _ y = G (m ((c : Thread nD τ).loc main_arg0)) (m ((c : Thread nD τ).loc main_arg1)) (m ((c : Thread nD τ).loc main_arg2)) (((cfg0.win 3).blk t).view.emb y)
  rw [show ((cfg0.win 3).blk t).view.emb y = (ix2 (row t.val 16 (places t).1 (y 0)) (col t.val (y 1)) : S8256x8192.Idx) from
    place (s₀ := 1376) (s₁ := 512) _ _ y _ _ (places t).2.2.2.2 (fun _ => rfl) _ _ rfl rfl]
  exact (out_apply _ _ _ y).trans (congrArg₂ gated
    (product_block (act_block m c t (y 0)) fun k => weight_block m c t k (y 1)) (gain_block m c t (y 1)))

/-- Every element of the array lies in the block of some grid point. -/
theorem covered (i : S8256x8192.Idx) : ∃ t : Fin cfg0.N, (cfg0.win 3).flush t = true ∧ i ∈ ((cfg0.win 3).blk t).view.set := by
  have h0 : (i 0).val < 8256 := (i 0).isLt
  have h1 : (i 1).val < 8192 := (i 1).isLt
  obtain ⟨t, e⟩ : ∃ t : Fin cfg0.N, t.val = 16 * ((i 0).val / 1376) + (i 1).val / 512 :=
    ⟨⟨_, by show _ < grid0.N; rw [N_0]; omega⟩, rfl⟩
  refine ⟨t, flush0_3 _, ?_⟩
  show i ∈ ((View.whole main_v1).slice (win0_3.rect t)).set
  rw [View.set_slice_whole, Rect.mem_set_unit]
  intro a
  have p := congrFun (places t).2.2.2.2 a
  match a with
  | ⟨0, _⟩ =>
    show win0_3.index t 0 * 1376 ≤ (i 0).val ∧ (i 0).val < win0_3.index t 0 * 1376 + 1376
    change win0_3.index t 0 = t.val / 16 at p
    omega
  | ⟨1, _⟩ =>
    show win0_3.index t 1 * 512 ≤ (i 1).val ∧ (i 1).val < win0_3.index t 1 * 512 + 512
    change win0_3.index t 1 = t.val % 16 at p
    omega

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed m c t) covered), (h c).2⟩)
    (Value.run_blocks m ρ)

/-- The reference's array is `G` of the same arguments. -/
theorem reference_value (a : Vec Ideal S8256x4096 .bf16) (w : Vec Ideal S4096x32768 .f32) (g : Vec Ideal S8192 .f32) :
    Cert.ReferenceYIdeal.Read.val_main_v7 (F := Ideal) a w g = G a w g := by
  open Cert.ReferenceYIdeal.Read in
  funext i
  have s : val_main_v2 (F := Ideal) a w i = product a w (i 0) (from₀ (i 1)) := by
    rw [val_main_v2_apply]
    unfold product
    refine Finset.sum_congr rfl fun k _ => ?_
    rw [val_main_v0_apply, val_main_v1_apply]
    refine congrArg₂ (· * ·) (congrArg a ?_) (congrArg w ?_) <;> funext d <;> fin_cases d <;> rfl
  rw [val_main_v7_apply, val_main_v6_apply, val_main_v5_apply, val_main_v4_apply, val_main_v3_apply, val_main_call0_v5_apply,
    val_main_call0_v4_apply, val_main_call0_cst_0_apply, val_main_call0_v3_apply, val_main_call0_v2_apply,
    val_main_call0_cst_apply, val_main_call0_v1_apply, val_main_call0_v0_apply, one_word, s,
    show idx_main_v4 (idx_main_v5 i) = ix1 (i 1) from by funext d; fin_cases d; rfl]
  rfl

end Cert.KernelYIdeal.Hand

end
-- ==== Proof.ClaimsY.lean ====
-- The claims about the gate path's projection of layer 0.
module

public import proofs.«01_k».proof.Defs
public import proofs.«01_k».proof.Proof.Gen.KernelY
public import proofs.«01_k».proof.Proof.ProjY

@[expose] public section

noncomputable section

namespace Cert.Proof

open Idealize.ShloMosaic Idealize.SL.Sem

/-- The kernel and its idealized text have the same body, at any float values. -/
theorem bodiesY : Cert.KernelY.defs₀ (F := Bits) = Cert.KernelYIdeal.defs₀ := by
  unfold Cert.KernelY.defs₀ Cert.KernelYIdeal.defs₀
  refine congrArg _ ?_
  funext l p
  match l, p with
  | 0, (t, s) => rfl

theorem callsY : Cert.KernelY.defs (F := Bits) = Cert.KernelYIdeal.defs :=
  congrArg (Pipeline.defs _) bodiesY

/-- The kernel over the chip's words keeps its arguments: its text is the idealized kernel's. -/
theorem frame_kernelY : Cert.quiescent_KernelY := fun m ρ _ => by
  rw [callsY]
  exact Cert.KernelYIdeal.Gen.frame (F := Bits) m ρ

theorem frame_kernelY_ideal : Cert.quiescent_KernelYIdeal := fun m ρ _ =>
  Cert.KernelYIdeal.Gen.frame (F := Ideal) m ρ

theorem frame_referenceY : Cert.quiescent_ReferenceYIdeal := fun m ρ _ =>
  (θ_run Cert.ReferenceYIdeal.defs _ _).mono (fun r h => ⟨fun c => (h c).2, sem_eq_zero_of_no_sems (by decide) r.2⟩)
    (Cert.ReferenceYIdeal.Value.run (F := Ideal) m ρ)

/-- Kernel and reference end with the same array, the gated product of the arguments. -/
theorem algebraicY : Cert.algebraic_KernelYIdeal_ReferenceYIdeal := by
  intro m ρ m' ρ' _ agree
  refine ⟨_, Cert.KernelYIdeal.Hand.run m ρ, ?_⟩
  refine (θ_run Cert.ReferenceYIdeal.defs _ _).mono (fun _ h => fun c => ⟨(h c).1.trans ?_, (h c).2⟩)
    (Cert.ReferenceYIdeal.Value.run (F := Ideal) m' ρ')
  obtain ⟨e0, e1, e2⟩ := agree c
  rw [e0, e1, e2]
  exact Cert.KernelYIdeal.Hand.reference_value _ _ _

end Cert.Proof

end
-- ==== Proof.ProjK.lean ====
/- The projection of layer 1 onto its keys: what one grid point computes, what the array holds after the run, what
   the reference computes, and that the two are one array over the extended reals. -/
module

public import proofs.«01_k».proof.Proof.Gen.KernelKIdeal.Value
public import proofs.«01_k».proof.Proof.Gen.ReferenceKIdeal.Run
public import proofs.«01_k».proof.Proof.Gen.ReferenceKIdeal.Read
public import proofs.«01_k».proof.Proof.Blocks
public import Idealize.ShloMosaic.Lib.Pointwise
public import Idealize.ShloMosaic.Lib.Quiescent

@[expose] public section

noncomputable section

namespace Cert.KernelKIdeal.Hand

open Cert.KernelKIdeal Cert.KernelKIdeal.Gen Cert.Proj Idealize.ShloMosaic Idealize.ShloMosaic.TcCoe Idealize.SL.Sem

theorem hz : (![0, 0] : Fin 2 → Nat) = fun _ => 0 := funext fun a => by fin_cases a <;> rfl

/-- One element of what a grid point stores. -/
theorem out_apply (x0 : Vec Ideal S1376x4096 .bf16) (x1 : Vec Ideal S4096x512 .f32) (j : S1376x512.Idx) :
    out0_2 x0 x1 j = product x0 x1 (j 0) (j 1) := by
  unfold out0_2
  rw [View.canon_unit_zero hz]
  unfold k0_pay1 product
  simp only [View.ld_unit_zero (S := S1376x4096) hz, View.ld_unit_zero (S := S4096x512) hz]
  pointwise

variable (m : (ℓ : Loc nD τ sig) → Buf (Elt Ideal) ℓ) (ρ : Dev nD → PrngReg)

/-- The weights' column for a column of the result. -/
abbrev from₀ (n : Fin 4096) : Fin 24576 := ⟨4096 + n.val, by omega⟩

/-- The array after the run, as one function of the two arguments. -/
def G (a : Vec Ideal S8256x4096 .bf16) (w : Vec Ideal S4096x24576 .f32) : Vec Ideal S8256x4096 .bf16 :=
  fun i => product a w (i 0) (from₀ (i 1))

/-- Where each window's block lies at grid point `t`. -/
theorem places : ∀ t : Fin cfg0.N, t.val / 8 < 6 ∧ win0_0.index t = ![t.val / 8, 0] ∧ win0_1.index t = ![0, 8 + t.val % 8]
    ∧ win0_2.index t = ![t.val / 8, t.val % 8] :=
  (by decide +kernel : ∀ t : Fin grid0.N, _)

theorem act_block (c : Dev nD) (t : Fin cfg0.N) (r : Fin 1376) (k : Fin 4096) :
    (iblk m c 0 t : Vec Ideal S1376x4096 .bf16) (ix2 r k) = m ((c : Thread nD τ).loc main_arg0) (ix2 (row t.val 8 (places t).1 r) k) := by
  rw [← V_main_arg0 m c]
  exact congrArg (V m c main_arg0) (place (s₀ := 1376) (s₁ := 4096) _ _ (ix2 r k) _ _ (places t).2.1 (fun _ => rfl) _ _ rfl (by show k.val = 0 * 4096 + k.val; omega))

theorem weight_block (c : Dev nD) (t : Fin cfg0.N) (k : Fin 4096) (j : Fin 512) :
    (iblk m c 1 t : Vec Ideal S4096x512 .f32) (ix2 k j) = m ((c : Thread nD τ).loc main_arg1) (ix2 k (from₀ (halfCol t.val j))) := by
  rw [← V_main_arg1 m c]
  refine congrArg (V m c main_arg1) (place (s₀ := 4096) (s₁ := 512) _ _ (ix2 k j) _ _ (places t).2.2.1 (fun _ => rfl) _ _ ?_ ?_)
  · show k.val = 0 * 4096 + k.val
    omega
  · show 4096 + (t.val % 8 * 512 + j.val) = (8 + t.val % 8) * 512 + j.val
    omega

/-- What grid point `t` writes back is block `t` of `G`. -/
theorem flushed (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  refine funext fun (y : S1376x512.Idx) => ?_
  show out0_2 _ _ y = G (m ((c : Thread nD τ).loc main_arg0)) (m ((c : Thread nD τ).loc main_arg1)) (((cfg0.win 2).blk t).view.emb y)
  rw [show ((cfg0.win 2).blk t).view.emb y = (ix2 (row t.val 8 (places t).1 (y 0)) (halfCol t.val (y 1)) : S8256x4096.Idx) from
    place (s₀ := 1376) (s₁ := 512) _ _ y _ _ (places t).2.2.2 (fun _ => rfl) _ _ rfl rfl]
  exact (out_apply _ _ y).trans (product_block (act_block m c t (y 0)) fun k => weight_block m c t k (y 1))

/-- Every element of the array lies in the block of some grid point. -/
theorem covered (i : S8256x4096.Idx) : ∃ t : Fin cfg0.N, (cfg0.win 2).flush t = true ∧ i ∈ ((cfg0.win 2).blk t).view.set := by
  have h0 : (i 0).val < 8256 := (i 0).isLt
  have h1 : (i 1).val < 4096 := (i 1).isLt
  obtain ⟨t, e⟩ : ∃ t : Fin cfg0.N, t.val = 8 * ((i 0).val / 1376) + (i 1).val / 512 :=
    ⟨⟨_, by show _ < grid0.N; rw [N_0]; omega⟩, rfl⟩
  refine ⟨t, flush0_2 _, ?_⟩
  show i ∈ ((View.whole main_v0).slice (win0_2.rect t)).set
  rw [View.set_slice_whole, Rect.mem_set_unit]
  intro a
  have p := congrFun (places t).2.2.2 a
  match a with
  | ⟨0, _⟩ =>
    show win0_2.index t 0 * 1376 ≤ (i 0).val ∧ (i 0).val < win0_2.index t 0 * 1376 + 1376
    change win0_2.index t 0 = t.val / 8 at p
    omega
  | ⟨1, _⟩ =>
    show win0_2.index t 1 * 512 ≤ (i 1).val ∧ (i 1).val < win0_2.index t 1 * 512 + 512
    change win0_2.index t 1 = t.val % 8 at p
    omega

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed m c t) covered), (h c).2⟩)
    (Value.run_blocks m ρ)

/-- The reference's array is `G` of the same arguments. -/
theorem reference_value (a : Vec Ideal S8256x4096 .bf16) (w : Vec Ideal S4096x24576 .f32) :
    Cert.ReferenceKIdeal.Read.val_main_v3 (F := Ideal) a w = G a w := by
  open Cert.ReferenceKIdeal.Read in
  funext i
  rw [val_main_v3_apply, val_main_v2_apply]
  unfold G product
  refine Finset.sum_congr rfl fun k _ => ?_
  rw [val_main_v0_apply, val_main_v1_apply]
  refine congrArg₂ (· * ·) (congrArg a ?_) (congrArg w ?_) <;> funext d <;> fin_cases d <;> rfl

end Cert.KernelKIdeal.Hand

end
-- ==== Proof.ClaimsK.lean ====
-- The claims about the key projection of layer 1.
module

public import proofs.«01_k».proof.Defs
public import proofs.«01_k».proof.Proof.Gen.KernelK
public import proofs.«01_k».proof.Proof.ProjK

@[expose] public section

noncomputable section

namespace Cert.Proof

open Idealize.ShloMosaic Idealize.SL.Sem

/-- The kernel and its idealized text have the same body, at any float values. -/
theorem bodiesK : Cert.KernelK.defs₀ (F := Bits) = Cert.KernelKIdeal.defs₀ := by
  unfold Cert.KernelK.defs₀ Cert.KernelKIdeal.defs₀
  refine congrArg _ ?_
  funext l p
  match l, p with
  | 0, (t, s) => rfl

theorem callsK : Cert.KernelK.defs (F := Bits) = Cert.KernelKIdeal.defs :=
  congrArg (Pipeline.defs _) bodiesK

/-- The kernel over the chip's words keeps its arguments: its text is the idealized kernel's. -/
theorem frame_kernelK : Cert.quiescent_KernelK := fun m ρ _ => by
  rw [callsK]
  exact Cert.KernelKIdeal.Gen.frame (F := Bits) m ρ

theorem frame_kernelK_ideal : Cert.quiescent_KernelKIdeal := fun m ρ _ =>
  Cert.KernelKIdeal.Gen.frame (F := Ideal) m ρ

theorem frame_referenceK : Cert.quiescent_ReferenceKIdeal := fun m ρ _ =>
  (θ_run Cert.ReferenceKIdeal.defs _ _).mono (fun r h => ⟨fun c => (h c).2, sem_eq_zero_of_no_sems (by decide) r.2⟩)
    (Cert.ReferenceKIdeal.Value.run (F := Ideal) m ρ)

/-- Kernel and reference end with the same array, one function of the arguments. -/
theorem algebraicK : Cert.algebraic_KernelKIdeal_ReferenceKIdeal := by
  intro m ρ m' ρ' _ agree
  refine ⟨_, Cert.KernelKIdeal.Hand.run m ρ, ?_⟩
  refine (θ_run Cert.ReferenceKIdeal.defs _ _).mono (fun _ h => fun c => ⟨(h c).1.trans ?_, (h c).2⟩)
    (Cert.ReferenceKIdeal.Value.run (F := Ideal) m' ρ')
  obtain ⟨e0, e1⟩ := agree c
  rw [e0, e1]
  exact Cert.KernelKIdeal.Hand.reference_value _ _

end Cert.Proof

end
-- ==== Proof.ProjS.lean ====
/- The projection of layer 1 onto its queries: what one grid point computes, what the array holds after the run, what
   the reference computes, and that the two are one array over the extended reals. -/
module

public import proofs.«01_k».proof.Proof.Gen.KernelSIdeal.Value
public import proofs.«01_k».proof.Proof.Gen.ReferenceSIdeal.Run
public import proofs.«01_k».proof.Proof.Gen.ReferenceSIdeal.Read
public import proofs.«01_k».proof.Proof.Blocks
public import Idealize.ShloMosaic.Lib.Pointwise
public import Idealize.ShloMosaic.Lib.Quiescent

@[expose] public section

noncomputable section

namespace Cert.KernelSIdeal.Hand

open Cert.KernelSIdeal Cert.KernelSIdeal.Gen Cert.Proj Idealize.ShloMosaic Idealize.ShloMosaic.TcCoe Idealize.SL.Sem

theorem hz : (![0, 0] : Fin 2 → Nat) = fun _ => 0 := funext fun a => by fin_cases a <;> rfl

/-- One output element: a product's element times the scale of the queries. -/
def scaled (s : EReal) : EReal := s * Ideal.ofBits .f32 0x3D3504F3#32

/-- One element of what a grid point stores. -/
theorem out_apply (x0 : Vec Ideal S1376x4096 .bf16) (x1 : Vec Ideal S4096x512 .f32) (j : S1376x512.Idx) :
    out0_2 x0 x1 j = scaled (product x0 x1 (j 0) (j 1)) := by
  unfold out0_2
  rw [View.canon_unit_zero hz]
  unfold k0_pay1 scaled product
  simp only [View.ld_unit_zero (S := S1376x4096) hz, View.ld_unit_zero (S := S4096x512) hz]
  pointwise

variable (m : (ℓ : Loc nD τ sig) → Buf (Elt Ideal) ℓ) (ρ : Dev nD → PrngReg)

/-- The weights' column for a column of the result. -/
abbrev from₀ (n : Fin 4096) : Fin 24576 := ⟨n.val, by omega⟩

/-- The array after the run, as one function of the two arguments. -/
def G (a : Vec Ideal S8256x4096 .bf16) (w : Vec Ideal S4096x24576 .f32) : Vec Ideal S8256x4096 .bf16 :=
  fun i => scaled (product a w (i 0) (from₀ (i 1)))

/-- Where each window's block lies at grid point `t`. -/
theorem places : ∀ t : Fin cfg0.N, t.val / 8 < 6 ∧ win0_0.index t = ![t.val / 8, 0] ∧ win0_1.index t = ![0, t.val % 8]
    ∧ win0_2.index t = ![t.val / 8, t.val % 8] :=
  (by decide +kernel : ∀ t : Fin grid0.N, _)

theorem act_block (c : Dev nD) (t : Fin cfg0.N) (r : Fin 1376) (k : Fin 4096) :
    (iblk m c 0 t : Vec Ideal S1376x4096 .bf16) (ix2 r k) = m ((c : Thread nD τ).loc main_arg0) (ix2 (row t.val 8 (places t).1 r) k) := by
  rw [← V_main_arg0 m c]
  exact congrArg (V m c main_arg0) (place (s₀ := 1376) (s₁ := 4096) _ _ (ix2 r k) _ _ (places t).2.1 (fun _ => rfl) _ _ rfl (by show k.val = 0 * 4096 + k.val; omega))

theorem weight_block (c : Dev nD) (t : Fin cfg0.N) (k : Fin 4096) (j : Fin 512) :
    (iblk m c 1 t : Vec Ideal S4096x512 .f32) (ix2 k j) = m ((c : Thread nD τ).loc main_arg1) (ix2 k (from₀ (halfCol t.val j))) := by
  rw [← V_main_arg1 m c]
  refine congrArg (V m c main_arg1) (place (s₀ := 4096) (s₁ := 512) _ _ (ix2 k j) _ _ (places t).2.2.1 (fun _ => rfl) _ _ ?_ ?_)
  · show k.val = 0 * 4096 + k.val
    omega
  · show (t.val % 8 * 512 + j.val) = (t.val % 8) * 512 + j.val
    omega

/-- What grid point `t` writes back is block `t` of `G`. -/
theorem flushed (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  refine funext fun (y : S1376x512.Idx) => ?_
  show out0_2 _ _ y = G (m ((c : Thread nD τ).loc main_arg0)) (m ((c : Thread nD τ).loc main_arg1)) (((cfg0.win 2).blk t).view.emb y)
  rw [show ((cfg0.win 2).blk t).view.emb y = (ix2 (row t.val 8 (places t).1 (y 0)) (halfCol t.val (y 1)) : S8256x4096.Idx) from
    place (s₀ := 1376) (s₁ := 512) _ _ y _ _ (places t).2.2.2 (fun _ => rfl) _ _ rfl rfl]
  exact (out_apply _ _ y).trans (congrArg scaled (product_block (act_block m c t (y 0)) fun k => weight_block m c t k (y 1)))

/-- Every element of the array lies in the block of some grid point. -/
theorem covered (i : S8256x4096.Idx) : ∃ t : Fin cfg0.N, (cfg0.win 2).flush t = true ∧ i ∈ ((cfg0.win 2).blk t).view.set := by
  have h0 : (i 0).val < 8256 := (i 0).isLt
  have h1 : (i 1).val < 4096 := (i 1).isLt
  obtain ⟨t, e⟩ : ∃ t : Fin cfg0.N, t.val = 8 * ((i 0).val / 1376) + (i 1).val / 512 :=
    ⟨⟨_, by show _ < grid0.N; rw [N_0]; omega⟩, rfl⟩
  refine ⟨t, flush0_2 _, ?_⟩
  show i ∈ ((View.whole main_v0).slice (win0_2.rect t)).set
  rw [View.set_slice_whole, Rect.mem_set_unit]
  intro a
  have p := congrFun (places t).2.2.2 a
  match a with
  | ⟨0, _⟩ =>
    show win0_2.index t 0 * 1376 ≤ (i 0).val ∧ (i 0).val < win0_2.index t 0 * 1376 + 1376
    change win0_2.index t 0 = t.val / 8 at p
    omega
  | ⟨1, _⟩ =>
    show win0_2.index t 1 * 512 ≤ (i 1).val ∧ (i 1).val < win0_2.index t 1 * 512 + 512
    change win0_2.index t 1 = t.val % 8 at p
    omega

/-- The run, read: the result is `G` of the arguments, and the arguments are unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed m c t) covered), (h c).2⟩)
    (Value.run_blocks m ρ)

/-- The reference's array is `G` of the same arguments. -/
theorem reference_value (a : Vec Ideal S8256x4096 .bf16) (w : Vec Ideal S4096x24576 .f32) :
    Cert.ReferenceSIdeal.Read.val_main_v5 (F := Ideal) a w = G a w := by
  open Cert.ReferenceSIdeal.Read in
  funext i
  rw [val_main_v5_apply, val_main_v4_apply, val_main_v3_apply, val_main_v2_apply]
  unfold G scaled product
  refine congrArg (fun s : EReal => s * Ideal.ofBits .f32 0x3D3504F3#32) ?_
  refine Finset.sum_congr rfl fun k _ => ?_
  rw [val_main_v0_apply, val_main_v1_apply]
  refine congrArg₂ (· * ·) (congrArg a ?_) (congrArg w ?_) <;> funext d <;> fin_cases d <;> rfl

end Cert.KernelSIdeal.Hand

end
-- ==== Proof.ClaimsS.lean ====
-- The claims about the query projection of layer 1.
module

public import proofs.«01_k».proof.Defs
public import proofs.«01_k».proof.Proof.Gen.KernelS
public import proofs.«01_k».proof.Proof.ProjS

@[expose] public section

noncomputable section

namespace Cert.Proof

open Idealize.ShloMosaic Idealize.SL.Sem

/-- The kernel and its idealized text have the same body, at any float values. -/
theorem bodiesS : Cert.KernelS.defs₀ (F := Bits) = Cert.KernelSIdeal.defs₀ := by
  unfold Cert.KernelS.defs₀ Cert.KernelSIdeal.defs₀
  refine congrArg _ ?_
  funext l p
  match l, p with
  | 0, (t, s) => rfl

theorem callsS : Cert.KernelS.defs (F := Bits) = Cert.KernelSIdeal.defs :=
  congrArg (Pipeline.defs _) bodiesS

/-- The kernel over the chip's words keeps its arguments: its text is the idealized kernel's. -/
theorem frame_kernelS : Cert.quiescent_KernelS := fun m ρ _ => by
  rw [callsS]
  exact Cert.KernelSIdeal.Gen.frame (F := Bits) m ρ

theorem frame_kernelS_ideal : Cert.quiescent_KernelSIdeal := fun m ρ _ =>
  Cert.KernelSIdeal.Gen.frame (F := Ideal) m ρ

theorem frame_referenceS : Cert.quiescent_ReferenceSIdeal := fun m ρ _ =>
  (θ_run Cert.ReferenceSIdeal.defs _ _).mono (fun r h => ⟨fun c => (h c).2, sem_eq_zero_of_no_sems (by decide) r.2⟩)
    (Cert.ReferenceSIdeal.Value.run (F := Ideal) m ρ)

/-- Kernel and reference end with the same array, one function of the arguments. -/
theorem algebraicS : Cert.algebraic_KernelSIdeal_ReferenceSIdeal := by
  intro m ρ m' ρ' _ agree
  refine ⟨_, Cert.KernelSIdeal.Hand.run m ρ, ?_⟩
  refine (θ_run Cert.ReferenceSIdeal.defs _ _).mono (fun _ h => fun c => ⟨(h c).1.trans ?_, (h c).2⟩)
    (Cert.ReferenceSIdeal.Value.run (F := Ideal) m' ρ')
  obtain ⟨e0, e1⟩ := agree c
  rw [e0, e1]
  exact Cert.KernelSIdeal.Hand.reference_value _ _

end Cert.Proof

end
-- ==== Proof.Gate.lean ====
/- The forget gate of layer 0 over the extended reals: its lower bound is a softmax over three logits, and the call's spelling
   of the gate, through `tanh`, is the reference's, through the logistic function, when the logits are finite. -/
module

public import proofs.«01_k».proof.Proof.Sigmoid
public import proofs.«01_k».proof.Proof.Blocks

@[expose] public section

noncomputable section

namespace Cert.Math

open Idealize.ShloMosaic

/-- The greatest of three logits, and the softmax's share of the first. -/
def greatest (l : Fin 3 → EReal) : EReal := Finset.univ.fold max (Ideal.ofBits .f32 0xFF800000#32) l
@[inherit_doc greatest] def bound (l : Fin 3 → EReal) : EReal :=
  Ideal.div (Ideal.exp (l 0 - greatest l)) (∑ k : Fin 3, Ideal.exp (l k - greatest l))

/-- The gate of a lower bound `b` and a projection's element `u`. -/
def gate (b u : EReal) : EReal := b + (1 - b) * Ideal.logistic u

theorem greatest_real (r : Fin 3 → ℝ) : ∃ g : ℝ, greatest (fun k => (r k : EReal)) = (g : EReal) := by
  have w : Ideal.ofBits .f32 0xFF800000#32 = ⊥ := by simp [Ideal.ofBits, Ideal.ieee]
  have lo : (⊥ : EReal) < greatest fun k => (r k : EReal) :=
    (Finset.lt_fold_max _).2 (.inr ⟨0, Finset.mem_univ _, EReal.bot_lt_coe _⟩)
  have hi : (greatest fun k => (r k : EReal)) < ⊤ :=
    (Finset.fold_max_lt _).2 ⟨by rw [w]; exact bot_lt_top, fun k _ => EReal.coe_lt_top _⟩
  exact ⟨_, (EReal.coe_toReal hi.ne lo.ne').symm⟩

/-- The share of a finite logit is real. -/
theorem bound_real (l : Fin 3 → EReal) (h : ∀ k, ∃ r : ℝ, l k = (r : EReal)) : ∃ b : ℝ, bound l = (b : EReal) := by
  choose r hr using h
  obtain rfl : l = fun k => (r k : EReal) := funext hr
  obtain ⟨g, hg⟩ := greatest_real r
  have p := fun k => Real.exp_pos (r k - g)
  unfold bound
  simp only [hg, ← EReal.coe_sub, Ideal.exp_coe, Fin.sum_univ_three, ← EReal.coe_add]
  rw [Ideal.div_coe (by have := p 0; have := p 1; have := p 2; positivity), ← EReal.coe_mul]
  exact ⟨_, rfl⟩

theorem tanh_real (v : EReal) : ∃ t : ℝ, Ideal.tanh v = (t : EReal) := by
  induction v with
  | bot => exact ⟨-1, by rw [Ideal.tanh_bot]; simp⟩
  | top => exact ⟨1, by rw [Ideal.tanh_top]; simp⟩
  | coe v => exact ⟨_, Ideal.tanh_coe v⟩

/-- The gate as the call spells it: the middle of the bound and one, and half their distance times `tanh`. -/
theorem gate_spelling (b : ℝ) (u : EReal) :
    ((b : EReal) + Ideal.ofBits .f32 0x3F000000#32 * (1 - (b : EReal)))
          + Ideal.ofBits .f32 0x3F000000#32 * (1 - (b : EReal)) * Ideal.tanh (Ideal.ofBits .f32 0x3F000000#32 * u) = gate b u
      ∧ Ideal.ofBits .f32 0x3F000000#32 * (1 - (b : EReal))
          - Ideal.ofBits .f32 0x3F000000#32 * (1 - (b : EReal)) * Ideal.tanh (Ideal.ofBits .f32 0x3F000000#32 * u) = 1 - gate b u := by
  unfold gate
  rw [← half_tanh]
  obtain ⟨t, ht⟩ := tanh_real (Ideal.ofBits .f32 0x3F000000#32 * u)
  rw [ht, half_word, ← EReal.coe_one]
  simp only [← EReal.coe_sub, ← EReal.coe_mul, ← EReal.coe_add]
  constructor <;> congr 1 <;> ring

end Cert.Math

end
-- ==== Proof.ProjF.lean ====
/- The projection of layer 0 onto its forget gate: what one grid point computes, what the two arrays hold after the run, what
   the reference computes, and that they are the same arrays over the extended reals when the bounds' logits are finite. -/
module

public import proofs.«01_k».proof.Proof.Gen.KernelFIdeal.Frame
public import proofs.«01_k».proof.Proof.Gen.ReferenceFIdeal.Run
public import proofs.«01_k».proof.Proof.Gen.ReferenceFIdeal.Read
public import proofs.«01_k».proof.Proof.Gate
public import proofs.«01_k».proof.Proof.AttnRef
public import Idealize.ShloMosaic.Lib.Pointwise
public import Idealize.ShloMosaic.Lib.Quiescent
public import Idealize.ShloMosaic.Lib.KernelVsHost

@[expose] public section

noncomputable section

namespace Cert.KernelFIdeal.Hand

open Cert.KernelFIdeal Cert.KernelFIdeal.Gen Cert.Proj Cert.Math Idealize.ShloMosaic Idealize.ShloMosaic.TcCoe Idealize.SL.Sem

theorem hz : (![0, 0] : Fin 2 → Nat) = fun _ => 0 := funext fun a => by fin_cases a <;> rfl

/-- The key of a gate, and the gate's logarithm to base two. -/
def key (b u : EReal) : EReal := 1 - gate b u
@[inherit_doc key] def decay (b u : EReal) : EReal := Ideal.div (Ideal.log (gate b u)) (Ideal.log (Ideal.ofBits .f32 0x40000000#32))

/-- The lower bound of a column of a block, as the body computes it. -/
theorem bound_apply (x3 : Vec Ideal S3x512 .f32) (j : Fin 512) :
    k0_pay2 x3 (ix2 (0 : Fin 1) j) = bound fun k => x3 (ix2 k j) := by
  unfold k0_pay2
  pointwise
  rfl

section

variable (x0 : Vec Ideal S1376x4096 .bf16) (x1 : Vec Ideal S4096x512 .f32) (x2 : Vec Ideal S1x512 .f32) (x3 : Vec Ideal S3x512 .f32)
  (j : S1376x512.Idx) (b : ℝ) (hb : (bound fun k => x3 (ix2 k (j 1))) = (b : EReal))
include hb

/-- One element of the keys that a grid point stores. -/
theorem key_apply : out0_6 x0 x1 x2 x3 j = key b (product x0 x1 (j 0) (j 1) + x2 (ix2 0 (j 1))) := by
  unfold out0_6
  rw [View.canon_unit_zero hz]
  unfold k0_pay1 k0_pay8 k0_pay4 k0_pay3 product
  simp only [View.ld_unit_zero (S := S1376x4096) hz, View.ld_unit_zero (S := S4096x512) hz, View.ld_unit_zero (S := S1x512) hz,
    View.ld_unit_zero (S := S3x512) hz]
  have e := (bound_apply x3 (j 1)).trans hb
  generalize k0_pay2 x3 = y at e ⊢
  pointwise
  rw [e]
  exact (gate_spelling b _).2

/-- One element of the logarithms that a grid point stores. -/
theorem decay_apply : out0_4 x0 x1 x2 x3 j = decay b (product x0 x1 (j 0) (j 1) + x2 (ix2 0 (j 1))) := by
  unfold out0_4
  rw [View.canon_unit_zero hz]
  unfold k0_pay6 k0_pay5 k0_pay4 k0_pay3 product
  simp only [View.ld_unit_zero (S := S1376x4096) hz, View.ld_unit_zero (S := S4096x512) hz, View.ld_unit_zero (S := S1x512) hz,
    View.ld_unit_zero (S := S3x512) hz]
  have e := (bound_apply x3 (j 1)).trans hb
  generalize k0_pay2 x3 = y at e ⊢
  pointwise
  rw [e]
  exact congrArg (fun g => Ideal.div (Ideal.log g) _) (gate_spelling b _).1

end

variable (m : (ℓ : Loc nD τ sig) → Buf (Elt Ideal) ℓ) (ρ : Dev nD → PrngReg)

/-- The weights' column for a column of the result. -/
abbrev from₀ (n : Fin 8192) : Fin 32768 := ⟨8192 + n.val, by omega⟩

/-- An array after the run, as one function of the four arguments and of what is made of a bound and an element. -/
def G (f : EReal → EReal → EReal) (a : Vec Ideal S8256x4096 .bf16) (w : Vec Ideal S4096x32768 .f32) (g : Vec Ideal S8192 .f32)
    (l : Vec Ideal S3x8192 .f32) : Vec Ideal S8256x8192 .bf16 :=
  fun i => f (bound fun k => l (ix2 k (i 1))) (product a w (i 0) (from₀ (i 1)) + g (ix1 (i 1)))

/-- That function of the arguments a device holds. -/
abbrev GAt (f : EReal → EReal → EReal) (c : Dev nD) : Vec Ideal S8256x8192 .bf16 :=
  G f (m ((c : Thread nD τ).loc main_arg0)) (m ((c : Thread nD τ).loc main_arg1)) (m ((c : Thread nD τ).loc main_arg2))
    (m ((c : Thread nD τ).loc main_arg3))

/-- Where each window's block lies at grid point `t`. -/
theorem places : ∀ t : Fin cfg0.N, t.val / 16 < 6 ∧ win0_0.index t = ![t.val / 16, 0] ∧ win0_1.index t = ![0, 16 + t.val % 16]
    ∧ win0_2.index t = ![0, t.val % 16] ∧ win0_3.index t = ![0, t.val % 16] ∧ win0_4.index t = ![t.val / 16, t.val % 16]
    ∧ win0_6.index t = ![t.val / 16, t.val % 16] :=
  (by decide +kernel : ∀ t : Fin grid0.N, _)

theorem act_block (c : Dev nD) (t : Fin cfg0.N) (r : Fin 1376) (k : Fin 4096) :
    (iblk m c 0 t : Vec Ideal S1376x4096 .bf16) (ix2 r k) = m ((c : Thread nD τ).loc main_arg0) (ix2 (row t.val 16 (places t).1 r) k) := by
  rw [← V_main_arg0 m c]
  exact congrArg (V m c main_arg0) (place (s₀ := 1376) (s₁ := 4096) _ _ (ix2 r k) _ _ (places t).2.1 (fun _ => rfl) _ _ rfl (by show k.val = 0 * 4096 + k.val; omega))

theorem weight_block (c : Dev nD) (t : Fin cfg0.N) (k : Fin 4096) (j : Fin 512) :
    (iblk m c 1 t : Vec Ideal S4096x512 .f32) (ix2 k j) = m ((c : Thread nD τ).loc main_arg1) (ix2 k (from₀ (col t.val j))) := by
  rw [← V_main_arg1 m c]
  refine congrArg (V m c main_arg1) (place (s₀ := 4096) (s₁ := 512) _ _ (ix2 k j) _ _ (places t).2.2.1 (fun _ => rfl) _ _ ?_ ?_)
  · show k.val = 0 * 4096 + k.val
    omega
  · show 8192 + (t.val % 16 * 512 + j.val) = (16 + t.val % 16) * 512 + j.val
    omega

/-- The region finds the bias as the one-row array that the host makes of the argument. -/
theorem bias_entry (c : Dev nD) (j : Fin 8192) :
    V m c main_v0 (ix2 (0 : Fin 1) j) = m ((c : Thread nD τ).loc main_arg2) (ix1 j) := by
  entry_read
  pointwise

theorem bias_block (c : Dev nD) (t : Fin cfg0.N) (j : Fin 512) :
    (iblk m c 2 t : Vec Ideal S1x512 .f32) (ix2 0 j) = m ((c : Thread nD τ).loc main_arg2) (ix1 (col t.val j)) := by
  rw [← bias_entry m c]
  exact congrArg (V m c main_v0) (place (s₀ := 1) (s₁ := 512) _ _ (ix2 0 j) _ _ (places t).2.2.2.1 (fun _ => rfl) _ _ rfl rfl)

theorem logit_block (c : Dev nD) (t : Fin cfg0.N) (k : Fin 3) (j : Fin 512) :
    (iblk m c 3 t : Vec Ideal S3x512 .f32) (ix2 k j) = m ((c : Thread nD τ).loc main_arg3) (ix2 k (col t.val j)) := by
  rw [← V_main_arg3 m c]
  exact congrArg (V m c main_arg3) (place (s₀ := 3) (s₁ := 512) _ _ (ix2 k j) _ _ (places t).2.2.2.2.1 (fun _ => rfl) _ _ (by show k.val = 0 * 3 + k.val; omega) rfl)

/-- Every element of a result lies in the block of some grid point. -/
theorem block_of (i : S8256x8192.Idx) : ∃ t : Fin cfg0.N, ∀ o : Fin 2 → ℕ, o = ![t.val / 16, t.val % 16] →
    (o 0 * 1376 ≤ (i 0).val ∧ (i 0).val < o 0 * 1376 + 1376) ∧ (o 1 * 512 ≤ (i 1).val ∧ (i 1).val < o 1 * 512 + 512) := by
  have h0 : (i 0).val < 8256 := (i 0).isLt
  have h1 : (i 1).val < 8192 := (i 1).isLt
  obtain ⟨t, e⟩ : ∃ t : Fin cfg0.N, t.val = 16 * ((i 0).val / 1376) + (i 1).val / 512 :=
    ⟨⟨_, by show _ < grid0.N; rw [N_0]; omega⟩, rfl⟩
  refine ⟨t, fun o ho => ?_⟩
  subst ho
  show (t.val / 16 * 1376 ≤ (i 0).val ∧ (i 0).val < t.val / 16 * 1376 + 1376)
    ∧ (t.val % 16 * 512 ≤ (i 1).val ∧ (i 1).val < t.val % 16 * 512 + 512)
  omega

section

variable (c : Dev nD) (finite : ∀ (k : Fin 3) (n : Fin 8192), ∃ r : ℝ, m ((c : Thread nD τ).loc main_arg3) (ix2 k n) = (r : EReal))
include finite

/-- The keys after the run. -/
theorem keys_final : (dats m 0 c).arrAt 6 cfg0.N = GAt m key c := by
  refine (dats m 0 c).arrAt_eq_of_cover 6 _ (fun t _ => ?_) fun i => ?_
  · show (cfg0.win 6).cut (grid0.coords t) ((dats m 0 c).after 6 t) = _
    rw [after0_6]
    refine funext fun (y : S1376x512.Idx) => ?_
    show out0_6 _ _ _ _ y = GAt m key c (((cfg0.win 6).blk t).view.emb y)
    rw [show ((cfg0.win 6).blk t).view.emb y = (ix2 (row t.val 16 (places t).1 (y 0)) (col t.val (y 1)) : S8256x8192.Idx) from
      place (s₀ := 1376) (s₁ := 512) _ _ y _ _ (places t).2.2.2.2.2.2 (fun _ => rfl) _ _ rfl rfl]
    have e := funext fun k => logit_block m c t k (y 1)
    obtain ⟨b, hb⟩ := bound_real _ fun k => finite k (col t.val (y 1))
    refine (key_apply _ _ _ _ y b ((congrArg bound e).trans hb)).trans (congrArg₂ key hb.symm (congrArg₂ (· + ·)
      (product_block (act_block m c t (y 0)) fun k => weight_block m c t k (y 1)) (bias_block m c t (y 1))))
  · obtain ⟨t, h⟩ := block_of i
    refine ⟨t, flush0_6 _, ?_⟩
    show i ∈ ((View.whole main_v1_2).slice (win0_6.rect t)).set
    rw [View.set_slice_whole, Rect.mem_set_unit]
    have p := h _ (places t).2.2.2.2.2.2
    exact fun a => match a with
      | ⟨0, _⟩ => p.1
      | ⟨1, _⟩ => p.2

/-- The logarithms after the run. -/
theorem decays_final : (dats m 0 c).arrAt 4 cfg0.N = GAt m decay c := by
  refine (dats m 0 c).arrAt_eq_of_cover 4 _ (fun t _ => ?_) fun i => ?_
  · show (cfg0.win 4).cut (grid0.coords t) ((dats m 0 c).after 4 t) = _
    rw [after0_4]
    refine funext fun (y : S1376x512.Idx) => ?_
    show out0_4 _ _ _ _ y = GAt m decay c (((cfg0.win 4).blk t).view.emb y)
    rw [show ((cfg0.win 4).blk t).view.emb y = (ix2 (row t.val 16 (places t).1 (y 0)) (col t.val (y 1)) : S8256x8192.Idx) from
      place (s₀ := 1376) (s₁ := 512) _ _ y _ _ (places t).2.2.2.2.2.1 (fun _ => rfl) _ _ rfl rfl]
    have e := funext fun k => logit_block m c t k (y 1)
    obtain ⟨b, hb⟩ := bound_real _ fun k => finite k (col t.val (y 1))
    refine (decay_apply _ _ _ _ y b ((congrArg bound e).trans hb)).trans (congrArg₂ decay hb.symm (congrArg₂ (· + ·)
      (product_block (act_block m c t (y 0)) fun k => weight_block m c t k (y 1)) (bias_block m c t (y 1))))
  · obtain ⟨t, h⟩ := block_of i
    refine ⟨t, flush0_4 _, ?_⟩
    show i ∈ ((View.whole main_v1_0).slice (win0_4.rect t)).set
    rw [View.set_slice_whole, Rect.mem_set_unit]
    have p := h _ (places t).2.2.2.2.2.1
    exact fun a => match a with
      | ⟨0, _⟩ => p.1
      | ⟨1, _⟩ => p.2

end

/-- The run, read: the two results are those functions of the arguments, and the arguments are unchanged. -/
theorem run (finite : ∀ (c : Dev nD) (k : Fin 3) (n : Fin 8192), ∃ r : ℝ, m ((c : Thread nD τ).loc main_arg3) (ix2 k n) = (r : EReal)) :
    θ_run defs (onTc (τ := τ) (main (F := Ideal))) ⟨m, fun _ => 0, ρ⟩ fun r => ∀ c : Dev nD,
      r.2.mem ((c : Thread nD τ).loc main_v1_2) = GAt m key c
      ∧ r.2.mem ((c : Thread nD τ).loc main_v1_0) = GAt m decay c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 6).trans (keys_final m c (finite c)), ((h c).1 4).trans (decays_final m c (finite c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c)))⟩)
    (run_main m ρ)

end Cert.KernelFIdeal.Hand

namespace Cert.ReferenceFIdeal.Hand

open Cert.ReferenceFIdeal Cert.ReferenceFIdeal.Gen Cert.ReferenceFIdeal.Read Cert.Proj Cert.Math Idealize.ShloMosaic
open Cert.KernelFIdeal.Hand (G key decay from₀)

/-- The window of a running sum over three rows. -/
abbrev W : Shape := ⟨2, ![3, 1]⟩

theorem numel_W : W.numel = 3 := by decide

theorem symm_W (n : Fin W.numel) : ∀ a : Fin 2, (W.rowMajor.symm n a).val = if a = 0 then n.val else 0 := by
  revert n
  decide +kernel

/-- The first of the rows' running sums is the first row. -/
theorem first_sum (x : FVec Ideal S3x8192 .f32) (init : FVec Ideal S_ .f32) (h0 : init (Shape.Idx.first h_S_) = (0 : EReal)) (d : Fin 8192) :
    Host.reduceWindowAdd ![3, 1] ![1, 1] ![2, 0] ![0, 0] x init reduceWindows_S3x8192_S3x8192_w3s1p2_0_w1s1p0_0 h_S_ (ix2 (0 : Fin 3) d)
      = x (ix2 (0 : Fin 3) d) := by
  have hd := d.isLt
  show Host.reduceWindow (fun a b : EReal => a + b) ![3, 1] ![1, 1] ![2, 0] ![0, 0] x _
    reduceWindows_S3x8192_S3x8192_w3s1p2_0_w1s1p0_0 _ (ix2 (0 : Fin 3) d) = _
  unfold Host.reduceWindow
  rw [h0]
  refine (Cert.ReferenceIdeal.Hand.foldl_add_sum (fun n : Fin W.numel => if n = (⟨2, by decide⟩ : Fin W.numel) then x (ix2 (0 : Fin 3) d) else 0)
    _ fun a n => ?_).trans (Finset.sum_ite_eq' _ _ _ |>.trans (if_pos (Finset.mem_univ _)))
  have hn : n.val < 3 := lt_of_lt_of_eq n.isLt numel_W
  have w0 : (W.rowMajor.symm n 0).val = n.val := symm_W n 0
  have w1 : (W.rowMajor.symm n 1).val = 0 := symm_W n 1
  dsimp only
  refine congrArg (a + ·) ?_
  split
  · next hin =>
    have h1 := hin 0
    change 2 ≤ 0 * 1 + (W.rowMajor.symm n 0).val ∧ 0 * 1 + (W.rowMajor.symm n 0).val - 2 < 3 at h1
    rw [w0] at h1
    rw [if_pos (Fin.ext (by show n.val = 2; omega))]
    refine congrArg x (funext fun b => Fin.ext ?_)
    match b with
    | ⟨0, _⟩ =>
      show 0 * 1 + (W.rowMajor.symm n 0).val - 2 = 0
      rw [w0]
      omega
    | ⟨1, _⟩ =>
      show d.val * 1 + (W.rowMajor.symm n 1).val - 0 = d.val
      rw [w1]
      omega
  · next hin =>
    rw [if_neg fun hle => hin fun b => by
      have e : n.val = 2 := congrArg Fin.val hle
      match b with
      | ⟨0, _⟩ =>
        show 2 ≤ 0 * 1 + (W.rowMajor.symm n 0).val ∧ 0 * 1 + (W.rowMajor.symm n 0).val - 2 < 3
        rw [w0]
        omega
      | ⟨1, _⟩ =>
        show 0 ≤ d.val * 1 + (W.rowMajor.symm n 1).val ∧ d.val * 1 + (W.rowMajor.symm n 1).val - 0 < 8192
        rw [w1]
        omega]

variable (a : Vec Ideal S8256x4096 .bf16) (w : Vec Ideal S4096x32768 .f32) (g : Vec Ideal S8192 .f32) (l : Vec Ideal S3x8192 .f32)

/-- The greatest logit of a column. -/
theorem greatest_entry (n : Fin 8192) : val_main_v5 (F := Ideal) l (ix1 n) = greatest fun k => l (ix2 k n) := by
  rw [val_main_v5_apply, val_main_v4_apply, val_main_cst_0_apply]
  have e : val_main_v3 (F := Ideal) l (ix1 n) = greatest fun k => l (ix2 k n) := by
    unfold val_main_v3 val_main_cst
    refine (congrFun (hostReduce_maximumf_eq_multiReduction (F := Ideal) (φ := .f32) (u := S_) l 0xFF800000#32
      reducesTo_S3x8192_S8192_d0 h_S_ (by decide) (.inl rfl) rfl) (ix1 n)).trans ?_
    pointwise
    rfl
  rw [e]
  exact max_eq_right ((Finset.le_fold_max _).2 (.inl le_rfl))

/-- The lower bound of a column's gates. -/
theorem bound_entry (n : Fin 8192) : val_main_v16 (F := Ideal) l (ix1 n) = bound fun k => l (ix2 k n) := by
  have hn := n.isLt
  have s : ∀ k : Fin 3, val_main_v9 (F := Ideal) l (ix2 k n) = Ideal.exp (l (ix2 k n) - greatest fun k => l (ix2 k n)) := by
    intro k
    rw [val_main_v9_apply, val_main_v8_apply, val_main_v7_apply, val_main_v6_apply,
      show idx_main_v6 (idx_main_v7 (ix2 k n)) = ix1 n from by funext d; fin_cases d; rfl, greatest_entry]
    rfl
  rw [val_main_v16_apply, val_main_v15_apply,
    show idx_main_v15 (idx_main_v16 (ix1 n)) = ix2 (0 : Fin 3) n from by
      funext d; apply Fin.ext; match d with | ⟨0, _⟩ => rfl | ⟨1, _⟩ => exact Nat.mod_eq_of_lt hn]
  unfold val_main_v14
  rw [first_sum _ _ (by rw [val_main_call0_call0_v0_apply, val_main_call0_call0_cst_apply]; exact Ideal.ofBits_zero .f32) n,
    val_main_v13_apply, s, val_main_v12_apply, val_main_v11_apply,
    show idx_main_v11 (idx_main_v12 (ix2 (0 : Fin 3) n)) = ix1 n from by funext d; fin_cases d; rfl, val_main_v10_apply,
    val_main_cst_1_apply, show (FloatOps.ofBits .f32 0x00000000#32 : Ideal .f32) = (0 : EReal) from Ideal.ofBits_zero .f32, zero_add]
  unfold bound
  refine congrArg (Ideal.div _) (Finset.sum_congr rfl fun k _ => ?_)
  exact (congrArg (val_main_v9 (F := Ideal) l) (by funext d; fin_cases d <;> rfl)).trans (s k)

/-- The gates. -/
theorem gate_entry (r : Fin 8256) (n : Fin 8192) : val_main_v33 (F := Ideal) a w g l (ix2 r n)
    = gate (bound fun k => l (ix2 k n)) (product a w r (from₀ n) + g (ix1 n)) := by
  have s : val_main_v2 (F := Ideal) a w (ix2 r n) = product a w r (from₀ n) := by
    rw [val_main_v2_apply]
    unfold product
    refine Finset.sum_congr rfl fun k _ => ?_
    rw [val_main_v0_apply, val_main_v1_apply]
    refine congrArg₂ (· * ·) (congrArg a ?_) (congrArg w ?_) <;> funext d <;> fin_cases d <;> rfl
  rw [val_main_v33_apply, val_main_v32_apply, val_main_v31_apply,
    show idx_main_v31 (idx_main_v32 (ix2 r n)) = ix1 n from by funext d; fin_cases d; rfl, bound_entry, val_main_v30_apply,
    val_main_v29_apply, val_main_v28_apply, show idx_main_v28 (idx_main_v29 (ix2 r n)) = ix1 n from by funext d; fin_cases d; rfl,
    val_main_v18_apply, bound_entry, val_main_v17_apply, val_main_cst_2_apply, val_main_v27_apply, val_main_v26_apply,
    val_main_cst_4_apply, val_main_v25_apply, val_main_v24_apply, val_main_cst_3_apply, val_main_v23_apply, val_main_v22_apply,
    val_main_v21_apply, val_main_v20_apply, val_main_v19_apply,
    show idx_main_v19 (idx_main_v20 (ix2 r n)) = ix1 n from by funext d; fin_cases d; rfl, s, one_word]
  rfl

theorem pair (i : S8256x8192.Idx) : ∃ (r : Fin 8256) (n : Fin 8192), i = ix2 r n :=
  ⟨i 0, i 1, by funext d; fin_cases d <;> rfl⟩

/-- The reference's keys. -/
theorem keys_value : val_main_v37 (F := Ideal) a w g l = G key a w g l := by
  funext i
  obtain ⟨r, n, rfl⟩ := pair i
  rw [val_main_v37_apply, val_main_v35_apply, val_main_v34_apply, val_main_cst_5_apply, one_word, gate_entry]
  rfl

/-- The reference's logarithms. -/
theorem decays_value : val_main_v41 (F := Ideal) a w g l = G decay a w g l := by
  funext i
  obtain ⟨r, n, rfl⟩ := pair i
  rw [val_main_v41_apply, val_main_v40_apply, val_main_v39_apply, val_main_v38_apply, val_main_cst_6_apply, val_main_v36_apply, gate_entry]
  rfl

end Cert.ReferenceFIdeal.Hand

end
-- ==== Proof.ClaimsF.lean ====
-- The claims about the forget gate's projection of layer 0.
module

public import proofs.«01_k».proof.Defs
public import proofs.«01_k».proof.Proof.Gen.KernelF
public import proofs.«01_k».proof.Proof.Gen.Pre_finite_bounds
public import proofs.«01_k».proof.Proof.ProjF
public import proofs.«01_k».proof.Proof.AttnEqual
public import Idealize.ShloMosaic.Lib.ReduceAll

@[expose] public section

noncomputable section

namespace Cert.Proof

open Idealize.ShloMosaic Idealize.SL.Sem

/-- The kernel and its idealized text have the same body, at any float values. -/
theorem bodiesF : Cert.KernelF.defs₀ (F := Bits) = Cert.KernelFIdeal.defs₀ := by
  unfold Cert.KernelF.defs₀ Cert.KernelFIdeal.defs₀
  refine congrArg _ ?_
  funext l p
  match l, p with
  | 0, (t, s) => rfl

theorem callsF : Cert.KernelF.defs (F := Bits) = Cert.KernelFIdeal.defs :=
  congrArg (Pipeline.defs _) bodiesF

/-- The kernel over the chip's words keeps its arguments: its text is the idealized kernel's. -/
theorem frame_kernelF : Cert.quiescent_KernelF := fun m ρ _ => by
  rw [callsF]
  exact Cert.KernelFIdeal.Gen.frame (F := Bits) m ρ

theorem frame_kernelF_ideal : Cert.quiescent_KernelFIdeal := fun m ρ _ =>
  Cert.KernelFIdeal.Gen.frame (F := Ideal) m ρ

theorem frame_referenceF : Cert.quiescent_ReferenceFIdeal := fun m ρ _ =>
  (θ_run Cert.ReferenceFIdeal.defs _ _).mono (fun r h => ⟨fun c => (h c).2.2, sem_eq_zero_of_no_sems (by decide) r.2⟩)
    (Cert.ReferenceFIdeal.Value.run (F := Ideal) m ρ)

/-- The two frames hold from every memory, hence from those with finite logits. -/
theorem frame_kernelF_finite : Cert.quiescent_KernelFIdeal_pre_finite_bounds := fun m ρ _ =>
  Cert.KernelFIdeal.Gen.frame (F := Ideal) m ρ

@[inherit_doc frame_kernelF_finite] theorem frame_referenceF_finite : Cert.quiescent_ReferenceFIdeal_pre_finite_bounds := fun m ρ _ =>
  frame_referenceF m ρ trivial

/-- The precondition makes the logits real. -/
theorem logits_real (m : (ℓ : Loc Cert.KernelFIdeal.nD Cert.KernelFIdeal.τ Cert.KernelFIdeal.sig) → Buf (Elt Ideal) ℓ)
    (h : Cert.Pre_KernelFIdeal_finite_bounds m) (c : Dev Cert.KernelFIdeal.nD) (k : Fin 3) (n : Fin 8192) :
    ∃ r : ℝ, m ((c.tc : Thread Cert.KernelFIdeal.nD Cert.KernelFIdeal.τ).loc Cert.KernelFIdeal.main_arg3) (ix2 k n) = (r : EReal) := by
  have e := congrFun (h c) ix0
  unfold Cert.Pre_finite_bounds.fn at e
  haveI : Subsingleton Cert.Pre_finite_bounds.S_.Idx := ⟨fun a b => funext fun k => k.elim0⟩
  exact Cert.KernelIdeal.Hand.real_of_below _ (Host.reduce_andi_all _ _ _ _ _ e (ix2 k n))

/-- With finite logits, kernel and reference end with the same keys and the same logarithms. -/
theorem algebraicF : Cert.algebraic_KernelFIdeal_ReferenceFIdeal_pre_finite_bounds := by
  intro m ρ m' ρ' pre agree
  refine ⟨_, _, Cert.KernelFIdeal.Hand.run m ρ (logits_real m pre), ?_⟩
  refine (θ_run Cert.ReferenceFIdeal.defs _ _).mono (fun _ h => fun c => ⟨(h c).1.trans ?_, (h c).2.1.trans ?_, (h c).2.2⟩)
    (Cert.ReferenceFIdeal.Value.run (F := Ideal) m' ρ')
  all_goals
    obtain ⟨e0, e1, e2, e3⟩ := agree c
    rw [e0, e1, e2, e3]
  · exact Cert.ReferenceFIdeal.Hand.keys_value _ _ _ _
  · exact Cert.ReferenceFIdeal.Hand.decays_value _ _ _ _

end Cert.Proof

end
-- ==== Proof.lean ====
module

public import proofs.«01_k».proof.Defs
public import proofs.«01_k».proof.Proof.ClaimsA
public import proofs.«01_k».proof.Proof.ClaimsZ
public import proofs.«01_k».proof.Proof.ClaimsO
public import proofs.«01_k».proof.Proof.ClaimsN
public import proofs.«01_k».proof.Proof.ClaimsV
public import proofs.«01_k».proof.Proof.ClaimsQ
public import proofs.«01_k».proof.Proof.ClaimsU
public import proofs.«01_k».proof.Proof.ClaimsY
public import proofs.«01_k».proof.Proof.ClaimsK
public import proofs.«01_k».proof.Proof.ClaimsS
public import proofs.«01_k».proof.Proof.ClaimsF
public import Idealize.ShloMosaic.Adequacy
public import Idealize.ShloMosaic.Init

@[expose] public section

noncomputable section

namespace Cert.Proof

open Idealize.ShloMosaic Idealize.SL.Sem

theorem claim : Cert.Claim :=
  ⟨Kernel.Gen.facts, KernelIdeal.Gen.facts, ReferenceIdeal.Gen.facts, KernelZ.Gen.facts, KernelZIdeal.Gen.facts, ReferenceZIdeal.Gen.facts, KernelO.Gen.facts, KernelOIdeal.Gen.facts, ReferenceOIdeal.Gen.facts, KernelN.Gen.facts, KernelNIdeal.Gen.facts, ReferenceNIdeal.Gen.facts, KernelV.Gen.facts, KernelVIdeal.Gen.facts, ReferenceVIdeal.Gen.facts, KernelQ.Gen.facts, KernelQIdeal.Gen.facts, ReferenceQIdeal.Gen.facts, KernelU.Gen.facts, KernelUIdeal.Gen.facts, ReferenceUIdeal.Gen.facts, KernelY.Gen.facts, KernelYIdeal.Gen.facts, ReferenceYIdeal.Gen.facts, KernelK.Gen.facts, KernelKIdeal.Gen.facts, ReferenceKIdeal.Gen.facts, KernelS.Gen.facts, KernelSIdeal.Gen.facts, ReferenceSIdeal.Gen.facts, KernelF.Gen.facts, KernelFIdeal.Gen.facts, ReferenceFIdeal.Gen.facts, Pre_finite.Gen.facts,
    Pre_finite_bounds.Gen.facts,
    frame_kernelA, frame_kernelA_ideal, frame_kernelA_finite, frame_referenceA, frame_referenceA_finite,
    frame_kernelZ, frame_kernelZ_ideal, frame_referenceZ,
    frame_kernelO, frame_kernelO_ideal, frame_referenceO,
    frame_kernelN, frame_kernelN_ideal, frame_referenceN,
    frame_kernelV, frame_kernelV_ideal, frame_referenceV,
    frame_kernelQ, frame_kernelQ_ideal, frame_referenceQ,
    frame_kernelU, frame_kernelU_ideal, frame_referenceU,
    frame_kernelY, frame_kernelY_ideal, frame_referenceY,
    frame_kernelK, frame_kernelK_ideal, frame_referenceK,
    frame_kernelS, frame_kernelS_ideal, frame_referenceS,
    frame_kernelF, frame_kernelF_ideal, frame_kernelF_finite, frame_referenceF, frame_referenceF_finite,
    trivial, algebraicA, trivial, algebraicZ, trivial, algebraicO, trivial, algebraicN, trivial, algebraicV, trivial, algebraicQ,
    trivial, algebraicU, trivial, algebraicY, trivial, algebraicK, trivial, algebraicS, trivial, algebraicF⟩

end Cert.Proof

end
